-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 1024]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S4096x512 : Shape := ⟨2, ![4096, 512]⟩
abbrev S4x128x512 : Shape := ⟨3, ![4, 128, 512]⟩
abbrev S4 : Shape := ⟨1, ![4]⟩
abbrev S2 : Shape := ⟨1, ![2]⟩
abbrev S_ : Shape := ⟨0, ![]⟩
abbrev S128x512 : Shape := ⟨2, ![128, 512]⟩
abbrev S1x128x512 : Shape := ⟨3, ![1, 128, 512]⟩
abbrev S1 : Shape := ⟨1, ![1]⟩
abbrev S2048x512 : Shape := ⟨2, ![2048, 512]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S4096x512, .bf16⟩
  | .local _ .vmem, ⟨0, _⟩ => ⟨S2048x1024, .bf16⟩
  | .local _ .vmem, ⟨1, _⟩ => ⟨S4096x512, .bf16⟩
  | .local _ .vmem, ⟨2, _⟩ => ⟨S4x128x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v21 : BitVec 32 := Scalar.muli v9 c4_i32_12
  let v22 : BitVec 32 := Scalar.addi c0_i32 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v23 : BitVec 32 := Scalar.muli v5 c2_i32_13
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v25 : BitVec 32 := Scalar.muli v8 c1_i32_14
  let v26 : BitVec 32 := Scalar.addi v24 v25
  v26.toNat
def k0_dev2 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v27 : BitVec 32 := Scalar.muli v2 c4_i32_16
  let v28 : BitVec 32 := Scalar.addi c0_i32_17 v27
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_18 : BitVec 32 := 2#32
  let v29 : BitVec 32 := Scalar.muli v10 c2_i32_18
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v31 : BitVec 32 := Scalar.muli v8 c1_i32_19
  let v32 : BitVec 32 := Scalar.addi v30 v31
  v32.toNat
def k0_dev3 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v33 : BitVec 32 := Scalar.muli v2 c4_i32_21
  let v34 : BitVec 32 := Scalar.addi c0_i32_22 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v35 : BitVec 32 := Scalar.muli v5 c2_i32_23
  let v36 : BitVec 32 := Scalar.addi v34 v35
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_24 : BitVec 32 := 1#32
  let v37 : BitVec 32 := Scalar.muli v11 c1_i32_24
  let v38 : BitVec 32 := Scalar.addi v36 v37
  v38.toNat
def k0_off1 (d0 : Dev nD) (c0_i32_27 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v42 : BitVec 32 := Scalar.muli v13 c512_i32
  let v43 : BitVec 32 := Scalar.addi v42 c0_i32_27
  let v46 : Index := Scalar.indexCast v43
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_28 v2
  let c512_i32_29 : BitVec 32 := 512#32
  let v45 : BitVec 32 := Scalar.muli v44 c512_i32_29
  let v47 : Index := Scalar.indexCast v45
  ![v46.toNat, v47.toNat]
def k0_off2 (d0 : Dev nD) (c0_i32_33 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32_26 : BitVec 32 := 2048#32
  let v41 : BitVec 32 := Scalar.muli v2 c2048_i32_26
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_32 : BitVec 32 := 512#32
  let v53 : BitVec 32 := Scalar.muli v13 c512_i32_32
  let v54 : BitVec 32 := Scalar.addi v41 v53
  let v55 : BitVec 32 := Scalar.addi v54 c0_i32_33
  let c0_i32_41 : BitVec 32 := 0#32
  ![v55.toNat, 0]
def k0_dev4 (d0 : Dev nD) : Nat :=
  let c0_i32_38 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_37 : BitVec 32 := 4#32
  let v56 : BitVec 32 := Scalar.muli v9 c4_i32_37
  let v57 : BitVec 32 := Scalar.addi c0_i32_38 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v58 : BitVec 32 := Scalar.muli v5 c2_i32_39
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v60 : BitVec 32 := Scalar.muli v8 c1_i32_40
  let v61 : BitVec 32 := Scalar.addi v59 v60
  v61.toNat
def k0_dev5 (d0 : Dev nD) : Nat :=
  let c0_i32_55 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_54 : BitVec 32 := 4#32
  let v83 : BitVec 32 := Scalar.muli v9 c4_i32_54
  let v84 : BitVec 32 := Scalar.addi c0_i32_55 v83
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v85 : BitVec 32 := Scalar.muli v5 c2_i32_56
  let v86 : BitVec 32 := Scalar.addi v84 v85
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v87 : BitVec 32 := Scalar.muli v8 c1_i32_57
  let v88 : BitVec 32 := Scalar.addi v86 v87
  v88.toNat
def k0_dev6 (d0 : Dev nD) : Nat :=
  let c0_i32_72 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_71 : BitVec 32 := 4#32
  let v110 : BitVec 32 := Scalar.muli v9 c4_i32_71
  let v111 : BitVec 32 := Scalar.addi c0_i32_72 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v112 : BitVec 32 := Scalar.muli v5 c2_i32_73
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v114 : BitVec 32 := Scalar.muli v8 c1_i32_74
  let v115 : BitVec 32 := Scalar.addi v113 v114
  v115.toNat
def k0_dev7 (d0 : Dev nD) : Nat :=
  let c0_i32_89 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_88 : BitVec 32 := 4#32
  let v137 : BitVec 32 := Scalar.muli v9 c4_i32_88
  let v138 : BitVec 32 := Scalar.addi c0_i32_89 v137
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v139 : BitVec 32 := Scalar.muli v5 c2_i32_90
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v141 : BitVec 32 := Scalar.muli v8 c1_i32_91
  let v142 : BitVec 32 := Scalar.addi v140 v141
  v142.toNat
def k0_off3 (d0 : Dev nD) : Fin 2 → Nat :=
  let c0_96 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_95 : BitVec 32 := 512#32
  let v150 : BitVec 32 := Scalar.muli v2 c512_i32_95
  let v151 : Index := Scalar.indexCast v150
  ![0, v151.toNat]
def k0_off4 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32_97 : BitVec 32 := 2048#32
  let v154 : BitVec 32 := Scalar.muli v2 c2048_i32_97
  let v155 : Index := Scalar.indexCast v154
  let c0_98 : Index := 0#32
  ![v155.toNat, 0]
def k0_off5 (d0 : Dev nD) (c0_i32_110 : BitVec 32) : Fin 2 → Nat :=
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let c2048_i32 : BitVec 32 := 2048#32
  let v40 : BitVec 32 := Scalar.muli v39 c2048_i32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_109 : BitVec 32 := 512#32
  let v168 : BitVec 32 := Scalar.muli v13 c512_i32_109
  let v169 : BitVec 32 := Scalar.addi v40 v168
  let v170 : BitVec 32 := Scalar.addi v169 c0_i32_110
  let c0_i32_117 : BitVec 32 := 0#32
  ![v170.toNat, 0]
def k0_dev8 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_113 : BitVec 32 := 4#32
  let v171 : BitVec 32 := Scalar.muli v2 c4_i32_113
  let v172 : BitVec 32 := Scalar.addi c0_i32_114 v171
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_115 : BitVec 32 := 2#32
  let v173 : BitVec 32 := Scalar.muli v10 c2_i32_115
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v175 : BitVec 32 := Scalar.muli v8 c1_i32_116
  let v176 : BitVec 32 := Scalar.addi v174 v175
  v176.toNat
def k0_dev9 (d0 : Dev nD) : Nat :=
  let c0_i32_122 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_121 : BitVec 32 := 4#32
  let v183 : BitVec 32 := Scalar.muli v2 c4_i32_121
  let v184 : BitVec 32 := Scalar.addi c0_i32_122 v183
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_123 : BitVec 32 := 2#32
  let v185 : BitVec 32 := Scalar.muli v5 c2_i32_123
  let v186 : BitVec 32 := Scalar.addi v184 v185
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_124 : BitVec 32 := 1#32
  let v187 : BitVec 32 := Scalar.muli v11 c1_i32_124
  let v188 : BitVec 32 := Scalar.addi v186 v187
  v188.toNat
def k0_dev10 (d0 : Dev nD) : Nat :=
  let c0_i32_142 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_141 : BitVec 32 := 4#32
  let v209 : BitVec 32 := Scalar.muli v2 c4_i32_141
  let v210 : BitVec 32 := Scalar.addi c0_i32_142 v209
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_143 : BitVec 32 := 2#32
  let v211 : BitVec 32 := Scalar.muli v10 c2_i32_143
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v213 : BitVec 32 := Scalar.muli v8 c1_i32_144
  let v214 : BitVec 32 := Scalar.addi v212 v213
  v214.toNat
def k0_dev11 (d0 : Dev nD) : Nat :=
  let c0_i32_150 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_149 : BitVec 32 := 4#32
  let v221 : BitVec 32 := Scalar.muli v2 c4_i32_149
  let v222 : BitVec 32 := Scalar.addi c0_i32_150 v221
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_151 : BitVec 32 := 2#32
  let v223 : BitVec 32 := Scalar.muli v5 c2_i32_151
  let v224 : BitVec 32 := Scalar.addi v222 v223
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_152 : BitVec 32 := 1#32
  let v225 : BitVec 32 := Scalar.muli v11 c1_i32_152
  let v226 : BitVec 32 := Scalar.addi v224 v225
  v226.toNat
def k0_dev12 (d0 : Dev nD) : Nat :=
  let c0_i32_170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_169 : BitVec 32 := 4#32
  let v247 : BitVec 32 := Scalar.muli v2 c4_i32_169
  let v248 : BitVec 32 := Scalar.addi c0_i32_170 v247
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_171 : BitVec 32 := 2#32
  let v249 : BitVec 32 := Scalar.muli v10 c2_i32_171
  let v250 : BitVec 32 := Scalar.addi v248 v249
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v251 : BitVec 32 := Scalar.muli v8 c1_i32_172
  let v252 : BitVec 32 := Scalar.addi v250 v251
  v252.toNat
def k0_dev13 (d0 : Dev nD) : Nat :=
  let c0_i32_178 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_177 : BitVec 32 := 4#32
  let v259 : BitVec 32 := Scalar.muli v2 c4_i32_177
  let v260 : BitVec 32 := Scalar.addi c0_i32_178 v259
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_179 : BitVec 32 := 2#32
  let v261 : BitVec 32 := Scalar.muli v5 c2_i32_179
  let v262 : BitVec 32 := Scalar.addi v260 v261
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_180 : BitVec 32 := 1#32
  let v263 : BitVec 32 := Scalar.muli v11 c1_i32_180
  let v264 : BitVec 32 := Scalar.addi v262 v263
  v264.toNat
def k0_dev14 (d0 : Dev nD) : Nat :=
  let c0_i32_198 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_197 : BitVec 32 := 4#32
  let v285 : BitVec 32 := Scalar.muli v2 c4_i32_197
  let v286 : BitVec 32 := Scalar.addi c0_i32_198 v285
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_199 : BitVec 32 := 2#32
  let v287 : BitVec 32 := Scalar.muli v10 c2_i32_199
  let v288 : BitVec 32 := Scalar.addi v286 v287
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v289 : BitVec 32 := Scalar.muli v8 c1_i32_200
  let v290 : BitVec 32 := Scalar.addi v288 v289
  v290.toNat
def k0_dev15 (d0 : Dev nD) : Nat :=
  let c0_i32_206 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_205 : BitVec 32 := 4#32
  let v297 : BitVec 32 := Scalar.muli v2 c4_i32_205
  let v298 : BitVec 32 := Scalar.addi c0_i32_206 v297
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_207 : BitVec 32 := 2#32
  let v299 : BitVec 32 := Scalar.muli v5 c2_i32_207
  let v300 : BitVec 32 := Scalar.addi v298 v299
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_208 : BitVec 32 := 1#32
  let v301 : BitVec 32 := Scalar.muli v11 c1_i32_208
  let v302 : BitVec 32 := Scalar.addi v300 v301
  v302.toNat
def k0_off6 (d0 : Dev nD) (c0_i32_220 : BitVec 32) : Fin 2 → Nat :=
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let c2048_i32 : BitVec 32 := 2048#32
  let v40 : BitVec 32 := Scalar.muli v39 c2048_i32
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c512_i32_219 : BitVec 32 := 512#32
  let v319 : BitVec 32 := Scalar.muli v19 c512_i32_219
  let v320 : BitVec 32 := Scalar.addi v40 v319
  let v321 : BitVec 32 := Scalar.addi v320 c0_i32_220
  let c0_i32_227 : BitVec 32 := 0#32
  ![v321.toNat, 0]
def k0_dev16 (d0 : Dev nD) : Nat :=
  let c0_i32_224 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_223 : BitVec 32 := 4#32
  let v322 : BitVec 32 := Scalar.muli v2 c4_i32_223
  let v323 : BitVec 32 := Scalar.addi c0_i32_224 v322
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_225 : BitVec 32 := 2#32
  let v324 : BitVec 32 := Scalar.muli v10 c2_i32_225
  let v325 : BitVec 32 := Scalar.addi v323 v324
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_226 : BitVec 32 := 1#32
  let v326 : BitVec 32 := Scalar.muli v8 c1_i32_226
  let v327 : BitVec 32 := Scalar.addi v325 v326
  v327.toNat
def k0_dev17 (d0 : Dev nD) : Nat :=
  let c0_i32_250 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_249 : BitVec 32 := 4#32
  let v357 : BitVec 32 := Scalar.muli v2 c4_i32_249
  let v358 : BitVec 32 := Scalar.addi c0_i32_250 v357
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_251 : BitVec 32 := 2#32
  let v359 : BitVec 32 := Scalar.muli v10 c2_i32_251
  let v360 : BitVec 32 := Scalar.addi v358 v359
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_252 : BitVec 32 := 1#32
  let v361 : BitVec 32 := Scalar.muli v8 c1_i32_252
  let v362 : BitVec 32 := Scalar.addi v360 v361
  v362.toNat
def k0_off7 (d0 : Dev nD) (c256_i32_280 : BitVec 32) : Fin 2 → Nat :=
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.subi c1_i32_25 v2
  let c2048_i32 : BitVec 32 := 2048#32
  let v40 : BitVec 32 := Scalar.muli v39 c2048_i32
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c512_i32_279 : BitVec 32 := 512#32
  let v399 : BitVec 32 := Scalar.muli v16 c512_i32_279
  let v400 : BitVec 32 := Scalar.addi v40 v399
  let v401 : BitVec 32 := Scalar.addi v400 c256_i32_280
  let c0_i32_287 : BitVec 32 := 0#32
  ![v401.toNat, 0]
def k0_dev18 (d0 : Dev nD) : Nat :=
  let c0_i32_284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_283 : BitVec 32 := 4#32
  let v402 : BitVec 32 := Scalar.muli v2 c4_i32_283
  let v403 : BitVec 32 := Scalar.addi c0_i32_284 v402
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_285 : BitVec 32 := 2#32
  let v404 : BitVec 32 := Scalar.muli v5 c2_i32_285
  let v405 : BitVec 32 := Scalar.addi v403 v404
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_286 : BitVec 32 := 1#32
  let v406 : BitVec 32 := Scalar.muli v11 c1_i32_286
  let v407 : BitVec 32 := Scalar.addi v405 v406
  v407.toNat
def k0_dev19 (d0 : Dev nD) : Nat :=
  let c0_i32_310 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_309 : BitVec 32 := 4#32
  let v437 : BitVec 32 := Scalar.muli v2 c4_i32_309
  let v438 : BitVec 32 := Scalar.addi c0_i32_310 v437
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_311 : BitVec 32 := 2#32
  let v439 : BitVec 32 := Scalar.muli v5 c2_i32_311
  let v440 : BitVec 32 := Scalar.addi v438 v439
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_312 : BitVec 32 := 1#32
  let v441 : BitVec 32 := Scalar.muli v11 c1_i32_312
  let v442 : BitVec 32 := Scalar.addi v440 v441
  v442.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x1024 : Shape := ⟨2, ![4096, 1024]⟩

abbrev nBuf : Space → Nat
  | .hbm => 1
  | .vmem => 0
  | .smem => 0
  | _ => 0

abbrev bufTy : (tb : Table) → Fin (tcTables nBuf tb) → BufTy
  | .hbm, ⟨0, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.KernelIdeal.Mesh.lean ====
/-
The geometry of the exchange: eight devices on a 2 × 2 × 2 mesh, the sixteen remote copies each device
issues, where each of them lands, and what every device's result holds when all of them have landed.

Device `c` sits at `x = c / 4`, `y = c / 2 % 2`, `z = c % 2`. Its three partners differ from it in one
coordinate each. The copies are numbered in program order:
* `0 … 3`: quarter rows of the argument, sent across `x`;
* `4 … 11`: each of the four quarters received across `x`, passed on across `y` (even) and across `z` (odd);
* `12, 13`: the first two quarters received across `z`, passed on across `y`;
* `14, 15`: the last two quarters received across `y`, passed on across `z`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

set_option maxRecDepth 16384

noncomputable section

namespace Cert.KernelIdealProof

open Cert.KernelIdeal Cert.KernelIdeal.Gen

open Idealize.ShloMosaic
open Idealize.ShloMosaic.TcCoe
open Idealize.SL.Sem

variable {F : FTy → Type} [FloatOps F]

/-! ## Partners -/

set_option backward.proofsInPublic true in
/-- The partner across `x`. -/
def px (c : Dev nD) : Dev nD := ⟨(c.val + 4) % 8, Nat.mod_lt _ (by decide)⟩
set_option backward.proofsInPublic true in
/-- The partner across `y`. -/
def py (c : Dev nD) : Dev nD := ⟨(4 * (c.val / 4) + (c.val + 2) % 4) % 8, Nat.mod_lt _ (by decide)⟩
set_option backward.proofsInPublic true in
/-- The partner across `z`. -/
def pz (c : Dev nD) : Dev nD := ⟨(2 * (c.val / 2) + (c.val + 1) % 2) % 8, Nat.mod_lt _ (by decide)⟩

/-- The partner across axis `a`. -/
def nb (a : Fin 3) (c : Dev nD) : Dev nD := if a = 0 then px c else if a = 1 then py c else pz c

theorem nb_nb : ∀ (a : Fin 3) (c : Dev nD), nb a (nb a c) = c := by decide

/-- The axis copy `t` travels along. -/
def axisOf (t : Fin 16) : Fin 3 :=
  if t.val < 4 then 0 else if t.val < 12 then (if t.val % 2 = 0 then 1 else 2) else if t.val < 14 then 1 else 2

/-- The device copy `t` of device `c` is addressed to; the partnership is mutual. -/
def peer (t : Fin 16) (c : Dev nD) : Dev nD := nb (axisOf t) c

theorem peer_peer (t : Fin 16) (c : Dev nD) : peer t (peer t c) = c := nb_nb _ _

/-- The device chains of the program: the signals' destinations, -/
theorem dev1_eq : ∀ c : Dev nD, (⟨k0_dev1 c, k0_dev1_lt c⟩ : Dev nD) = nb 0 c := fun c =>
  Fin.ext ((k0_dev1_eq c).trans ((by decide : ∀ c : Dev nD, (2 * ((c.val / 2) % 2) + (c.val % 2) + 4) - 4 * (c.val / 4) = (nb 0 c).val) c))
theorem dev2_eq : ∀ c : Dev nD, (⟨k0_dev2 c, k0_dev2_lt c⟩ : Dev nD) = nb 1 c := fun c =>
  Fin.ext ((k0_dev2_eq c).trans ((by decide : ∀ c : Dev nD, (4 * (c.val / 4) + (c.val % 2) + 2) - 2 * ((c.val / 2) % 2) = (nb 1 c).val) c))
theorem dev3_eq : ∀ c : Dev nD, (⟨k0_dev3 c, k0_dev3_lt c⟩ : Dev nD) = nb 2 c := fun c =>
  Fin.ext ((k0_dev3_eq c).trans ((by decide : ∀ c : Dev nD, (4 * (c.val / 4) + 2 * ((c.val / 2) % 2) + 1) - (c.val % 2) = (nb 2 c).val) c))

/-- and, in program order, the copies'. -/
theorem devX_eq (t : Fin 16) (ht : axisOf t = 0) (c : Dev nD) {n : ℕ} (h : n < nD)
    (e : n = (2 * ((c.val / 2) % 2) + (c.val % 2) + 4) - 4 * (c.val / 4)) : (⟨n, h⟩ : Dev nD) = peer t c := by
  unfold peer; rw [ht, ← dev1_eq c]; exact Fin.ext (e.trans (k0_dev1_eq c).symm)
theorem devY_eq (t : Fin 16) (ht : axisOf t = 1) (c : Dev nD) {n : ℕ} (h : n < nD)
    (e : n = (4 * (c.val / 4) + (c.val % 2) + 2) - 2 * ((c.val / 2) % 2)) : (⟨n, h⟩ : Dev nD) = peer t c := by
  unfold peer; rw [ht, ← dev2_eq c]; exact Fin.ext (e.trans (k0_dev2_eq c).symm)
theorem devZ_eq (t : Fin 16) (ht : axisOf t = 2) (c : Dev nD) {n : ℕ} (h : n < nD)
    (e : n = (4 * (c.val / 4) + 2 * ((c.val / 2) % 2) + 1) - (c.val % 2)) : (⟨n, h⟩ : Dev nD) = peer t c := by
  unfold peer; rw [ht, ← dev3_eq c]; exact Fin.ext (e.trans (k0_dev3_eq c).symm)

/-! ## Where the copies land -/

/-- The first of the 128 rows copy `t` of device `c` writes in its partner's result. A copy that passes rows on
    reads them at the same rows of `c`'s own result. -/
def row (t : Fin 16) (c : Dev nD) : ℕ :=
  if t.val < 4 then 2048 * (c.val / 4) + 1024 * (c.val / 2 % 2) + 512 * (c.val % 2) + 128 * t.val
  else if t.val < 12 then 2048 * (1 - c.val / 4) + 1024 * (c.val / 2 % 2) + 512 * (c.val % 2) + 128 * ((t.val - 4) / 2)
  else if t.val < 14 then 2048 * (1 - c.val / 4) + 1024 * (c.val / 2 % 2) + 512 * (1 - c.val % 2) + 128 * (t.val - 12)
  else 2048 * (1 - c.val / 4) + 1024 * (1 - c.val / 2 % 2) + 512 * (c.val % 2) + 128 * (t.val - 12)

/-- The first of the 128 rows of `c`'s result that its partner's copy `t` writes. -/
def rowIn (t : Fin 16) (c : Dev nD) : ℕ := row t (peer t c)

/-- The block of sixteen 128-row chunks the rows `2048 (1 - x) …` make: which copy fills the chunk numbered `k`. -/
theorem rowIn_form : ∀ (t : Fin 16) (c : Dev nD), rowIn t c % 128 = 0 ∧ rowIn t c / 2048 = 1 - c.val / 4 ∧ rowIn t c + 128 ≤ 4096 := by
  decide +kernel
theorem rowIn_inj : ∀ (c : Dev nD) (t t' : Fin 16), rowIn t c = rowIn t' c → t = t' := by decide +kernel
theorem rowIn_surj : ∀ (c : Dev nD) (k : Fin 32), k.val / 16 = 1 - c.val / 4 → ∃ t : Fin 16, rowIn t c = 128 * k.val := by decide +kernel
theorem row_le : ∀ (t : Fin 16) (c : Dev nD), row t c + 128 ≤ 4096 := by decide +kernel

/-- The copies by what they carry: quarter `k` across `x`; the same passed on across `y` and across `z`; -/
abbrev tX (k : Fin 4) : Fin 16 := ⟨k.val, by omega⟩
abbrev tY (k : Fin 4) : Fin 16 := ⟨4 + 2 * k.val, by omega⟩
abbrev tZ (k : Fin 4) : Fin 16 := ⟨5 + 2 * k.val, by omega⟩
/-- what came across `z` passed on across `y`, and what came across `y` passed on across `z`. -/
abbrev tYY (j : Fin 2) : Fin 16 := ⟨12 + j.val, by omega⟩
abbrev tZZ (j : Fin 2) : Fin 16 := ⟨14 + j.val, by omega⟩

/-- The copies that pass a received chunk on read exactly the rows that chunk was received at. -/
theorem row_fwd_x : ∀ (i : Fin 4) (c : Dev nD), row (tY i) c = rowIn (tX i) c
    ∧ row (tZ i) c = rowIn (tX i) c := by decide +kernel
theorem row_fwd_12 : ∀ c : Dev nD, row 12 c = rowIn 5 c := by decide +kernel
theorem row_fwd_13 : ∀ c : Dev nD, row 13 c = rowIn 7 c := by decide +kernel
theorem row_fwd_14 : ∀ c : Dev nD, row 14 c = rowIn 8 c := by decide +kernel
theorem row_fwd_15 : ∀ c : Dev nD, row 15 c = rowIn 10 c := by decide +kernel

/-- The program's offsets in closed form: the destination rows of the four copies across `x`, -/
theorem off2_row (r : Fin 4) (c : Dev nD) : k0_off2 c (BitVec.ofNat 32 (128 * r.val)) = ![row (tX r) c, 0] := by
  rw [k0_off2_eq]; unfold row; rw [if_pos (show (tX r).val < 4 from r.isLt)]
/-- of the copies passing them on, -/
theorem off5_row (r : Fin 4) (c : Dev nD) :
    k0_off5 c (BitVec.ofNat 32 (128 * r.val)) = ![row (tY r) c, 0]
      ∧ k0_off5 c (BitVec.ofNat 32 (128 * r.val)) = ![row (tZ r) c, 0] := by
  rw [k0_off5_eq, (row_fwd_x r c).1, (row_fwd_x r c).2]
  have h : (1024 * ((c.val / 2) % 2) + 512 * (c.val % 2) + 128 * r.val + 2048) - 2048 * (c.val / 4) = rowIn (tX r) c := by
    revert r c; decide +kernel
  rw [h]; exact ⟨rfl, rfl⟩
/-- and of the last four. -/
theorem off6_row (r : Fin 2) (c : Dev nD) : k0_off6 c (BitVec.ofNat 32 (128 * r.val)) = ![row (tYY r) c, 0] := by
  rw [k0_off6_eq]
  have h : (1024 * ((c.val / 2) % 2) + 128 * r.val + 2560) - (2048 * (c.val / 4) + 512 * (c.val % 2)) = row (tYY r) c := by
    revert r c; decide +kernel
  rw [h]
theorem off7_row (r : Fin 2) (c : Dev nD) : k0_off7 c (BitVec.ofNat 32 (256 + 128 * r.val)) = ![row (tZZ r) c, 0] := by
  rw [k0_off7_eq]
  have h : (512 * (c.val % 2) + 128 * r.val + 3328) - (2048 * (c.val / 4) + 1024 * ((c.val / 2) % 2)) = row (tZZ r) c := by
    revert r c; decide +kernel
  rw [h]

/-! ## Sets of elements of the result -/

/-- The 128 rows from `R` on. -/
def chunk (R : ℕ) : Finset S4096x512.Idx := Finset.univ.filter fun i => R ≤ (i 0).val ∧ (i 0).val < R + 128
/-- The half of the result whose rows come from `c`'s own argument. -/
def half (c : Dev nD) : Finset S4096x512.Idx := Finset.univ.filter fun i => (i 0).val / 2048 = c.val / 4

theorem mem_chunk {R : ℕ} {i : S4096x512.Idx} : i ∈ chunk R ↔ R ≤ (i 0).val ∧ (i 0).val < R + 128 := by
  unfold chunk; rw [Finset.mem_filter]; exact ⟨fun h => h.2, fun h => ⟨Finset.mem_univ _, h⟩⟩
theorem mem_half {c : Dev nD} {i : S4096x512.Idx} : i ∈ half c ↔ (i 0).val / 2048 = c.val / 4 := by
  unfold half; rw [Finset.mem_filter]; exact ⟨fun h => h.2, fun h => ⟨Finset.mem_univ _, h⟩⟩

theorem lt0 (i : S4096x512.Idx) : (i 0).val < 4096 := (i 0).isLt
theorem lt1 (i : S4096x512.Idx) : (i 1).val < 512 := (i 1).isLt

/-- A 128-row slice of the result covers the chunk at its first row. -/
theorem set_rows {off : Fin 2 → ℕ} {R : ℕ} (h : ∀ a, off a + S128x512.size a ≤ S4096x512.size a) (e : off = ![R, 0]) :
    (Rect.unit (s := S4096x512) off S128x512.size h).set = chunk R := by
  subst e
  ext i
  rw [Rect.mem_set_unit, mem_chunk, Fin.forall_fin_two]
  refine ⟨fun hh => hh.1, fun hh => ⟨hh, Nat.zero_le _, ?_⟩⟩
  have := lt1 i
  show (i 1).val < 0 + 512
  omega
theorem set_half {c : Dev nD} {off : Fin 2 → ℕ} (h : ∀ a, off a + S2048x512.size a ≤ S4096x512.size a) (e : off = ![2048 * (c.val / 4), 0]) :
    (Rect.unit (s := S4096x512) off S2048x512.size h).set = half c := by
  subst e
  ext i
  rw [Rect.mem_set_unit, mem_half, Fin.forall_fin_two]
  have h0 := lt0 i; have h1 := lt1 i
  show (2048 * (c.val / 4) ≤ (i 0).val ∧ (i 0).val < 2048 * (c.val / 4) + 2048) ∧ (0 ≤ (i 1).val ∧ (i 1).val < 0 + 512) ↔ _
  omega

theorem chunk_disjoint (c : Dev nD) (t t' : Fin 16) (h : t ≠ t') : Disjoint (chunk (rowIn t c)) (chunk (rowIn t' c)) := by
  rw [Finset.disjoint_left]
  intro i hi hi'
  rw [mem_chunk] at hi hi'
  have h1 := (rowIn_form t c).1; have h2 := (rowIn_form t' c).1
  exact h (rowIn_inj c t t' (by omega))
theorem chunks_half_disjoint (c : Dev nD) : Disjoint (Finset.univ.biUnion fun t : Fin 16 => chunk (rowIn t c)) (half c) := by
  rw [Finset.disjoint_left]
  intro i hi hi'
  obtain ⟨t, -, ht⟩ := Finset.mem_biUnion.mp hi
  rw [mem_chunk] at ht; rw [mem_half] at hi'
  have h1 := (rowIn_form t c).1; have h2 := (rowIn_form t c).2.1
  have := c.isLt
  omega
/-- The sixteen chunks and the own half make the whole result. -/
theorem chunks_union_half (c : Dev nD) : (Finset.univ.biUnion fun t : Fin 16 => chunk (rowIn t c)) ∪ half c = Finset.univ := by
  ext i
  refine ⟨fun _ => Finset.mem_univ _, fun _ => ?_⟩
  rw [Finset.mem_union, mem_half, Finset.mem_biUnion]
  by_cases hh : (i 0).val / 2048 = c.val / 4
  · exact Or.inr hh
  · left
    have h0 := lt0 i
    have hc : c.val < 8 := c.isLt
    obtain ⟨t, ht⟩ := rowIn_surj c ⟨(i 0).val / 128, by omega⟩ (by show (i 0).val / 128 / 16 = _; omega)
    refine ⟨t, Finset.mem_univ _, ?_⟩
    rw [mem_chunk, ht]
    show 128 * ((i 0).val / 128) ≤ _ ∧ _ < 128 * ((i 0).val / 128) + 128
    omega

/-! ## Sets of elements of the staging scratch -/

/-- Block `k` of the scratch. -/
def stBlk (k : Fin 4) : Finset S4x128x512.Idx := Finset.univ.filter fun i => (i 0).val = k.val

theorem mem_stBlk {k : Fin 4} {i : S4x128x512.Idx} : i ∈ stBlk k ↔ (i 0).val = k.val := by
  unfold stBlk; rw [Finset.mem_filter]; exact ⟨fun h => h.2, fun h => ⟨Finset.mem_univ _, h⟩⟩
theorem set_stBlk (k : Fin 4) (h : ∀ a, (![k.val, 0, 0] : Fin 3 → ℕ) a + S1x128x512.size a ≤ S4x128x512.size a) :
    (Rect.unit (s := S4x128x512) ![k.val, 0, 0] S1x128x512.size h).set = stBlk k := by
  ext i
  rw [Rect.mem_set_unit, mem_stBlk]
  have h1 : (i 1).val < 128 := (i 1).isLt
  have h2 : (i 2).val < 512 := (i 2).isLt
  constructor
  · intro hh
    have := hh 0
    have h3 : k.val ≤ (i 0).val ∧ (i 0).val < k.val + 1 := this
    omega
  · intro hh a
    fin_cases a
    · show k.val ≤ (i 0).val ∧ (i 0).val < k.val + 1
      omega
    · show 0 ≤ (i 1).val ∧ (i 1).val < 0 + 128
      omega
    · show 0 ≤ (i 2).val ∧ (i 2).val < 0 + 512
      omega
theorem stBlk_disjoint (k k' : Fin 4) (h : k ≠ k') : Disjoint (stBlk k) (stBlk k') := by
  rw [Finset.disjoint_left]
  intro i hi hi'
  rw [mem_stBlk] at hi hi'
  exact h (Fin.ext (hi.symm.trans hi'))
theorem stBlk_union : (Finset.univ.biUnion fun k : Fin 4 => stBlk k) = Finset.univ := by
  ext i
  refine ⟨fun _ => Finset.mem_univ _, fun _ => Finset.mem_biUnion.mpr ⟨⟨(i 0).val, (i 0).isLt⟩, Finset.mem_univ _, mem_stBlk.mpr rfl⟩⟩

/-! ## The memrefs -/

/-- The memrefs the body is called with: the argument's block, the result, the staging scratch. -/
abbrev xM : Memref sig .tc .vmem S2048x1024 .bf16 := Memref.whole cc0_stg0_0
abbrev oM : Memref sig .tc .vmem S4096x512 .bf16 := Memref.whole cc0_stg1_0
abbrev sM : Memref sig .tc .vmem S4x128x512 .bf16 := Memref.whole cc0_scratch0
/-- 128 rows of the result, and a block of the scratch with its leading axis of size one dropped. -/
abbrev oSl (off : Fin 2 → ℕ) (h : ∀ a, off a + S128x512.size a ≤ S4096x512.size a) : Memref sig .tc .vmem S128x512 .bf16 :=
  oM.slice (Rect.unit (s := S4096x512) off S128x512.size h) (fun _ => rfl)
abbrev sSl (off : Fin 3 → ℕ) (h : ∀ a, off a + S1x128x512.size a ≤ S4x128x512.size a) : Memref sig .tc .vmem S128x512 .bf16 :=
  (sM.slice (Rect.unit (s := S4x128x512) off S1x128x512.size h) (fun _ => rfl)).squeeze S128x512 squeezes_S1x128x512_S128x512

theorem oSl_set {off : Fin 2 → ℕ} {R : ℕ} (h : ∀ a, off a + S128x512.size a ≤ S4096x512.size a) (e : off = ![R, 0]) :
    (oSl off h).view.set = chunk R := (View.set_slice_whole _ _).trans (set_rows h e)
theorem sSl_set (k : Fin 4) (h : ∀ a, (![k.val, 0, 0] : Fin 3 → ℕ) a + S1x128x512.size a ≤ S4x128x512.size a) :
    (sSl ![k.val, 0, 0] h).view.set = stBlk k :=
  (View.set_reshape _ _).trans ((View.set_slice_whole _ _).trans (set_stBlk k h))

/-! ## Contents -/

set_option backward.proofsInPublic true in
/-- The index of a device's argument block at row `r`, column `j`. -/
def ixX (r j : ℕ) : S2048x1024.Idx := fun
  | 0 => ⟨r % 2048, Nat.mod_lt _ (by decide)⟩
  | 1 => ⟨j % 1024, Nat.mod_lt _ (by decide)⟩

theorem ixX_eq (i : S2048x1024.Idx) {r j : ℕ} (h0 : (i 0).val = r) (h1 : (i 1).val = j) : i = ixX r j := by
  funext a
  have l0 : (i 0).val < 2048 := (i 0).isLt
  have l1 : (i 1).val < 1024 := (i 1).isLt
  fin_cases a
  · exact Fin.ext (by show (i 0).val = r % 2048; omega)
  · exact Fin.ext (by show (i 1).val = j % 1024; omega)

set_option backward.proofsInPublic true in
/-- The device whose argument holds row `r` of `c`'s result: `c` itself for its own half; for the other half
    the device across `x` whose quarter of 512 rows that is. -/
def src (c : Dev nD) (r : ℕ) : Dev nD :=
  if r / 2048 = c.val / 4 then c else ⟨(4 * (1 - c.val / 4) + r % 2048 / 512) % 8, Nat.mod_lt _ (by decide)⟩

variable (X : Dev nD → (cc0_stg0_0 : Ref sig .tc).ty.Contents (Elt F))

/-- What device `c`'s result holds at the end, of the argument blocks `X`: row `r` is row `r mod 2048` of the
    argument of `src c r`, its columns those from `512 (c / 4)` on. -/
def G (c : Dev nD) : (cc0_stg1_0 : Ref sig .tc).ty.Contents (Elt F) := fun i =>
  X (src c (i 0).val) (ixX ((i 0).val % 2048) (512 * (c.val / 4) + (i 1).val))

omit [FloatOps F] in
/-- Rows that come from across `x` are the same for every device of one `x`. -/
theorem G_same (c p : Dev nD) (h : c.val / 4 = p.val / 4) (i : S4096x512.Idx) (hi : (i 0).val / 2048 ≠ c.val / 4) :
    G X c i = G X p i := by
  have e : src c (i 0).val = src p (i 0).val := by
    unfold src; rw [if_neg hi, if_neg (h ▸ hi)]; exact Fin.ext (by simp only [h])
  unfold G
  rw [e, h]

/-- What copy `k` across `x` carries: rows `1024 y + 512 z + 128 k …` of the argument, the columns the partner
    across `x` keeps. -/
def carried (c : Dev nD) (k : Fin 4) : S128x512.Idx → Elt F .bf16 := fun i =>
  X c (ixX (1024 * (c.val / 2 % 2) + 512 * (c.val % 2) + 128 * k.val + (i 0).val) (512 - 512 * (c.val / 4) + (i 1).val))

omit [FloatOps F] in
/-- A chunk passed on within one `x` leaves contents that are right at the sender right at the receiver. -/
theorem landed_fwd {off : Fin 2 → ℕ} {R : ℕ} (h : ∀ a, off a + S128x512.size a ≤ S4096x512.size a) (e : off = ![R, 0])
    (c p : Dev nD) (hcp : c.val / 4 = p.val / 4) (hR : R / 2048 ≠ c.val / 4) (hR' : R % 128 = 0)
    (fd : (cc0_stg1_0 : Ref sig .tc).ty.Contents (Elt F)) :
    ∀ i ∈ chunk R, (oSl off h).view.write (Elt F) fd
      ((oSl off h).view.read (Elt F) (G X c)) Finset.univ i = G X p i := by
  intro i hi
  have hs : i ∈ (oSl off h).view.setOn Finset.univ := by
    rw [View.setOn_univ, oSl_set h e]; exact hi
  rw [View.write_read_eq_piecewise, Finset.piecewise_eq_of_mem _ _ _ hs]
  rw [mem_chunk] at hi
  exact G_same X c p hcp i (by omega)

omit [FloatOps F] in
/-- A chunk sent across `x` lands as the receiver's final contents. -/
theorem landed_x {off : Fin 2 → ℕ} (k : Fin 4) (c : Dev nD) (h : ∀ a, off a + S128x512.size a ≤ S4096x512.size a)
    (e : off = ![row (tX k) c, 0]) (fd : (cc0_stg1_0 : Ref sig .tc).ty.Contents (Elt F)) :
    ∀ i ∈ chunk (row (tX k) c), (oSl off h).view.write (Elt F) fd
      (carried X c k) Finset.univ i = G X (nb 0 c) i := by
  intro i hi
  have hs : i ∈ (oSl off h).view.set := by
    rw [oSl_set h e]; exact hi
  obtain ⟨x, -, hx⟩ := Finset.mem_map.mp hs
  subst hx
  rw [View.write_emb_of_mem _ _ (Finset.mem_univ x)]
  show carried X c k x = _
  have h0 : (((oSl off h).view.emb x) 0).val = off 0 + 1 * (x 0).val := rfl
  have h1 : (((oSl off h).view.emb x) 1).val = off 1 + 1 * (x 1).val := rfl
  have hr : row (tX k) c = 2048 * (c.val / 4) + 1024 * (c.val / 2 % 2) + 512 * (c.val % 2) + 128 * k.val := by
    unfold row; rw [if_pos (show (tX k).val < 4 from k.isLt)]
  rw [show off 0 = row (tX k) c by rw [e]; rfl] at h0
  rw [show off 1 = 0 by rw [e]; rfl] at h1
  have l0 : (x 0).val < 128 := (x 0).isLt
  have hc : c.val < 8 := c.isLt
  have hp : (nb 0 c).val / 4 = 1 - c.val / 4 := (by decide : ∀ c : Dev nD, (nb 0 c).val / 4 = 1 - c.val / 4) c
  unfold G carried
  rw [h0, h1]
  have hsrc : src (nb 0 c) (row (tX k) c + 1 * (x 0).val) = c := by
    unfold src
    rw [if_neg (by rw [hp, hr]; omega)]
    apply Fin.ext
    show (4 * (1 - (nb 0 c).val / 4) + (row (tX k) c + 1 * (x 0).val) % 2048 / 512) % 8 = c.val
    rw [hp, hr]; omega
  rw [hsrc, hp]
  congr 2
  · rw [hr]; omega
  · omega

omit [FloatOps F] in
/-- What the load of rows `1024 y + 512 z + 128 k …` of the argument reads. -/
theorem read_block {off : Fin 2 → ℕ} (k : Fin 4) (c : Dev nD) (h : ∀ a, off a + S128x512.size a ≤ S2048x1024.size a)
    (e : off = ![1024 * ((c.val / 2) % 2) + 512 * (c.val % 2) + 128 * k.val, 512 - 512 * (c.val / 4)]) :
    xM.view.readAt (Elt F) (Rect.unit (s := S2048x1024) off S128x512.size h).toLoadRect (X c) = carried X c k := by
  subst e
  funext x
  show X c _ = X c _
  congr 1
  refine ixX_eq _ ?_ ?_
  · show 1024 * ((c.val / 2) % 2) + 512 * (c.val % 2) + 128 * k.val + 1 * (x 0).val = _; omega
  · show 512 - 512 * (c.val / 4) + 1 * (x 1).val = _; omega

omit [FloatOps F] in
/-- Storing, in the own half, the columns kept of the own argument leaves the final contents there. -/
theorem stored_half {off off' : Fin 2 → ℕ} (c : Dev nD) (h : ∀ a, off a + S2048x512.size a ≤ S2048x1024.size a)
    (h' : ∀ a, off' a + S2048x512.size a ≤ S4096x512.size a)
    (e : off = ![0, 512 * (c.val / 4)]) (e' : off' = ![2048 * (c.val / 4), 0]) (fd : (cc0_stg1_0 : Ref sig .tc).ty.Contents (Elt F)) :
    ∀ i ∈ half c, (oM.access (Rect.unit (s := S4096x512) off' S2048x512.size h') : View sig .tc _ _ _).write (Elt F) fd
      (k0_pay6 (F := F) (xM.view.readAt (Elt F) (Rect.unit (s := S2048x1024) off S2048x512.size h).toLoadRect (X c))) Finset.univ i = G X c i := by
  intro i hi
  have hs : i ∈ (oM.access (Rect.unit (s := S4096x512) off' S2048x512.size h') : View sig .tc _ _ _).set := by
    rw [show (oM.access (Rect.unit (s := S4096x512) off' S2048x512.size h') : View sig .tc _ _ _).set = half c from
      (View.set_slice_whole _ _).trans (set_half h' e')]
    exact hi
  obtain ⟨x, -, hx⟩ := Finset.mem_map.mp hs
  subst hx
  rw [View.write_emb_of_mem _ _ (Finset.mem_univ x)]
  subst e e'
  unfold k0_pay6
  rw [shapeCast_self]
  have h0 : (((oM.access (Rect.unit (s := S4096x512) ![2048 * (c.val / 4), 0] S2048x512.size h') : View sig .tc _ _ _).emb x) 0).val = 2048 * (c.val / 4) + 1 * (x 0).val := rfl
  have h1 : (((oM.access (Rect.unit (s := S4096x512) ![2048 * (c.val / 4), 0] S2048x512.size h') : View sig .tc _ _ _).emb x) 1).val = 0 + 1 * (x 1).val := rfl
  have l0 : (x 0).val < 2048 := (x 0).isLt
  unfold G
  rw [h0, h1]
  have hsrc : src c (2048 * (c.val / 4) + 1 * (x 0).val) = c := by unfold src; rw [if_pos (by omega)]
  rw [hsrc]
  show X c _ = X c _
  congr 1
  refine ixX_eq _ ?_ ?_
  · show 0 + 1 * (x 0).val = _; omega
  · show 512 * (c.val / 4) + 1 * (x 1).val = _; omega

/-- A block stored in the scratch is what the copy out of it reads. -/
theorem staged {off : Fin 3 → ℕ} (h : ∀ a, off a + S1x128x512.size a ≤ S4x128x512.size a)
    (fd : (cc0_scratch0 : Ref sig .tc).ty.Contents (Elt F)) (v : S128x512.Idx → Elt F .bf16) (w : S1x128x512.Idx → Elt F .bf16)
    (hw : w = shapeCast (α := Elt F .bf16) S1x128x512 v shapeCasts_S128x512_S1x128x512) :
    (sSl off h).view.read (Elt F)
      ((sM.access (Rect.unit (s := S4x128x512) off S1x128x512.size h) : View sig .tc _ _ _).write (Elt F) fd w Finset.univ) = v := by
  subst hw
  funext x
  show _root_.cast _ (((View.whole cc0_scratch0).slice (Rect.unit (s := S4x128x512) off S1x128x512.size h)).write (Elt F) fd _ Finset.univ
    (((View.whole cc0_scratch0).slice (Rect.unit (s := S4x128x512) off S1x128x512.size h)).emb _)) = v x
  rw [View.write_emb_of_mem _ _ (Finset.mem_univ _)]
  show v (Shape.reshapeEquiv _ (Shape.reshapeEquiv _ x)) = v x
  rw [Shape.reshapeEquiv_reshapeEquiv, Shape.reshapeEquiv_self]

theorem pay1_eq (v : Vec F S128x512 .bf16) : k0_pay1 v = shapeCast (α := Elt F .bf16) S1x128x512 v shapeCasts_S128x512_S1x128x512 := by
  unfold k0_pay1; rw [shapeCast_self]
theorem pay2_eq (v : Vec F S128x512 .bf16) : k0_pay2 v = shapeCast (α := Elt F .bf16) S1x128x512 v shapeCasts_S128x512_S1x128x512 := by
  unfold k0_pay2; rw [shapeCast_self]
theorem pay3_eq (v : Vec F S128x512 .bf16) : k0_pay3 v = shapeCast (α := Elt F .bf16) S1x128x512 v shapeCasts_S128x512_S1x128x512 := by
  unfold k0_pay3; rw [shapeCast_self]
theorem pay5_eq (v : Vec F S128x512 .bf16) : k0_pay5 (k0_pay4 v) = shapeCast (α := Elt F .bf16) S1x128x512 v shapeCasts_S128x512_S1x128x512 := by
  unfold k0_pay5 k0_pay4; rw [shapeCast_self]

end Cert.KernelIdealProof

end
-- ==== Proof.KernelIdeal.Schedule.lean ====
/-
The schedule of the exchange's semaphores: which cell is raised by whom, by how much, and what is handed over
with each raise; the levels the cells are waited at; and what every device owes when it starts.

A device has thirty-three cells of its own: the barrier semaphore, raised once by each of its three partners
before any copy starts, and for each of the sixteen copies the semaphore its issue completes on (send side)
and the one its landing completes on (receive side). Every cell is used for one round.
-/
module

public import proofs.«01_k».proof.Proof.KernelIdeal.Mesh

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's rounds and the exchange's (three duties a round at most) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The barrier semaphore. -/
abbrev barS : Sem sig := (SemArray.scalar (sig.barrier 0 rfl) : Sems sig S_).sem

/-- The semaphore copy `t`'s issue completes on, -/
def sendQ (t : Fin 16) : DmaSem sig :=
  if t.val < 4 then ⟨2 + t.val, by show _ < 34; omega⟩
  else if t.val < 12 then
    (if t.val % 2 = 0 then ⟨10 + (t.val - 4) / 2, by show _ < 34; omega⟩ else ⟨18 + (t.val - 4) / 2, by show _ < 34; omega⟩)
  else if t.val < 14 then ⟨26 + (t.val - 12), by show _ < 34; omega⟩ else ⟨30 + (t.val - 14), by show _ < 34; omega⟩
/-- and the one its landing completes on. -/
def recvQ (t : Fin 16) : DmaSem sig :=
  if t.val < 4 then ⟨6 + t.val, by show _ < 34; omega⟩
  else if t.val < 12 then
    (if t.val % 2 = 0 then ⟨14 + (t.val - 4) / 2, by show _ < 34; omega⟩ else ⟨22 + (t.val - 4) / 2, by show _ < 34; omega⟩)
  else if t.val < 14 then ⟨28 + (t.val - 12), by show _ < 34; omega⟩ else ⟨32 + (t.val - 14), by show _ < 34; omega⟩

/-- A device's own scoped cells: send side and receive side of each copy; -/
abbrev OI : Type := Fin 16 ⊕ Fin 16
/-- all of its cells: those and the barrier. -/
abbrev CI : Type := OI ⊕ Unit

def osem : OI → SemLoc sig
  | .inl t => .dma (sendQ t)
  | .inr t => .dma (recvQ t)
def csem : CI → SemLoc sig
  | .inl k => osem k
  | .inr _ => .reg barS

/-- Which copy's cell a DMA semaphore is. -/
def slot (q : ℕ) : Option OI :=
  if q < 2 then none
  else if q < 6 then some (.inl (Fin.ofNat 16 (q - 2)))
  else if q < 10 then some (.inr (Fin.ofNat 16 (q - 6)))
  else if q < 14 then some (.inl (Fin.ofNat 16 (4 + 2 * (q - 10))))
  else if q < 18 then some (.inr (Fin.ofNat 16 (4 + 2 * (q - 14))))
  else if q < 22 then some (.inl (Fin.ofNat 16 (5 + 2 * (q - 18))))
  else if q < 26 then some (.inr (Fin.ofNat 16 (5 + 2 * (q - 22))))
  else if q < 28 then some (.inl (Fin.ofNat 16 (12 + (q - 26))))
  else if q < 30 then some (.inr (Fin.ofNat 16 (12 + (q - 28))))
  else if q < 32 then some (.inl (Fin.ofNat 16 (14 + (q - 30))))
  else some (.inr (Fin.ofNat 16 (14 + (q - 32))))
def kindOf : SemLoc sig → Option CI
  | .reg _ => some (.inr ())
  | .dma q => (slot q.val).map .inl

theorem kindOf_csem : ∀ k : CI, kindOf (csem k) = some k := by decide
theorem csem_injective : Function.Injective csem := fun a b h =>
  Option.some.inj ((kindOf_csem a).symm.trans ((congrArg kindOf h).trans (kindOf_csem b)))

abbrev cell (c : Dev nD) (k : CI) : GSem nD τ sig := ((c : Thread nD τ), csem k)
abbrev kB : CI := .inr ()
abbrev kS (t : Fin 16) : CI := .inl (.inl t)
abbrev kR (t : Fin 16) : CI := .inl (.inr t)

theorem cell_inj {c c' : Dev nD} {k k' : CI} (h : cell c k = cell c' k') : c = c' ∧ k = k' :=
  ⟨congrArg (fun g : GSem nD τ sig => g.1.1) h, csem_injective (congrArg Prod.snd h)⟩

/-- The credit of one copy of 128 rows. -/
abbrev N : ℕ := (oSl ![0, 0] (by decide)).view.dmaCredit
theorem N_pos : 0 < N := View.dmaCredit_pos _ (by decide)

/-! ## What is handed over -/

/-- Rows `R … R + 127` of `c`'s result, at share `q`, holding `f`. -/
def chPts (c : Dev nD) (R : ℕ) (q : PosShare TreeShare) (f : Buf (Elt F) ((c : Thread nD τ).loc cc0_stg1_0)) : sProp 𝕄 :=
  ((c : Thread nD τ).loc cc0_stg1_0) ↦[chunk R]{q} f
/-- Block `k` of `c`'s scratch, holding `f`. -/
def stPts (c : Dev nD) (k : Fin 4) (f : Buf (Elt F) ((c : Thread nD τ).loc cc0_scratch0)) : sProp 𝕄 :=
  ((c : Thread nD τ).loc cc0_scratch0) ↦[stBlk k]{fullShare} f

omit [FloatOps F] in
instance chPts_storable (c : Dev nD) (R : ℕ) (q) (f) : BI.Storable (upEmb : UEmb _ 𝕄) (chPts (F := F) c R q f) := by unfold chPts; infer_instance
omit [FloatOps F] in
instance stPts_storable (c : Dev nD) (k) (f) : BI.Storable (upEmb : UEmb _ 𝕄) (stPts (F := F) c k f) := by unfold stPts; infer_instance

/-- The share of its source a copy borrows: the two copies of one received chunk half each, every other all of it. -/
def shareOf (t : Fin 16) : PosShare TreeShare :=
  if t.val < 4 then fullShare else if t.val < 12 then (if t.val % 2 = 0 then fullShare.left else fullShare.right) else fullShare

variable (X : Dev nD → (cc0_stg0_0 : Ref sig .tc).ty.Contents (Elt F))

/-- What partner `a`'s barrier signal hands `c`: the rows of that partner's result `c`'s copies write. -/
def barPay (c : Dev nD) (a : Fin 3) : sProp 𝕄 :=
  bigSep (Finset.univ.filter fun t : Fin 16 => axisOf t = a) fun t => iprop(∃ f, chPts (nb a c) (row t c) fullShare f)
/-- What the landing of the partner's copy `t` hands `c`: the rows written, at their final contents. -/
def recvPay (c : Dev nD) (t : Fin 16) : sProp 𝕄 := chPts c (rowIn t c) fullShare (G X c)
/-- What the completed issue of copy `t` hands back: its source. -/
def sendPay (c : Dev nD) (t : Fin 16) : sProp 𝕄 :=
  if h : t.val < 4 then iprop(∃ f, stPts c ⟨t.val, h⟩ f) else chPts c (row t c) (shareOf t) (G X c)

omit [FloatOps F] in
instance barPay_storable (c : Dev nD) (a) : BI.Storable (upEmb : UEmb _ 𝕄) (barPay (F := F) c a) := by unfold barPay; infer_instance
omit [FloatOps F] in
instance recvPay_storable (c : Dev nD) (t) : BI.Storable (upEmb : UEmb _ 𝕄) (recvPay (F := F) X c t) := by unfold recvPay; infer_instance
omit [FloatOps F] in
instance sendPay_storable (c : Dev nD) (t) : BI.Storable (upEmb : UEmb _ 𝕄) (sendPay (F := F) X c t) := by unfold sendPay; split <;> infer_instance

/-- The schedule's duties, amounts and payloads, by cell. -/
def dutiesK : Option CI → Finset (Fin 3)
  | none => ∅
  | some (.inr _) => Finset.univ
  | some (.inl _) => {0}
def amountK : Option CI → ℕ
  | some (.inr _) => 1
  | _ => N
def payK (c : Dev nD) (d : Fin 3) : Option CI → sProp 𝕄
  | none => iprop(emp)
  | some (.inr _) => barPay c d
  | some (.inl (.inl t)) => sendPay X c t
  | some (.inl (.inr t)) => recvPay X c t

def Rd : Rounds.Schedule (GSem nD τ sig) (Fin 3) 𝕄 where
  duties g r := if r = 0 ∧ g.1.2 = .tc then dutiesK (kindOf g.2) else ∅
  unitless _ := False
  amount g _ _ := amountK (kindOf g.2)
  payload g _ d := payK X g.1.1 d (kindOf g.2)
  amount_pos g _ _ _ := by
    unfold amountK
    split
    · exact Nat.one_pos
    · exact N_pos

omit [FloatOps F] in
instance Rd_payload_storable (g : GSem nD τ sig) (r : ℕ) (d : Fin 3) :
    BI.Storable (upEmb : UEmb _ 𝕄) ((Rd (F := F) X).payload g r d) := by
  show BI.Storable upEmb (payK X g.1.1 d (kindOf g.2))
  unfold payK
  split <;> infer_instance

section Sched
variable (c : Dev nD)

omit [FloatOps F] in
theorem duties_cell (k : CI) : (Rd (F := F) X).duties (cell c k) 0 = dutiesK (some k) := by
  dsimp only [Rd]; rw [if_pos ⟨rfl, rfl⟩, kindOf_csem]
omit [FloatOps F] in
theorem duties_later (g : GSem nD τ sig) : ∀ r, 1 ≤ r → (Rd (F := F) X).duties g r = ∅ :=
  fun r hr => if_neg fun h => by have := h.1; omega
omit [FloatOps F] in
theorem amount_cell (k : CI) (r : ℕ) (d : Fin 3) : (Rd (F := F) X).amount (cell c k) r d = amountK (some k) := by
  show amountK (kindOf (csem k)) = _
  rw [kindOf_csem]
omit [FloatOps F] in
theorem payload_cell (k : CI) (r : ℕ) (d : Fin 3) : (Rd (F := F) X).payload (cell c k) r d = payK X c d (some k) := by
  show payK X c d (kindOf (csem k)) = _
  rw [kindOf_csem]

omit [FloatOps F] in
theorem expect_own (k : OI) : (Rd (F := F) X).expect (cell c (.inl k)) 0 = N := by
  unfold Schedule.expect Schedule.amountOf
  rw [duties_cell]
  show ∑ d ∈ ({0} : Finset (Fin 3)), _ = N
  rw [Finset.sum_singleton, amount_cell]; rfl
omit [FloatOps F] in
theorem expect_bar : (Rd (F := F) X).expect (cell c kB) 0 = 3 := by
  unfold Schedule.expect Schedule.amountOf
  rw [duties_cell, Finset.sum_congr rfl fun d _ => amount_cell X c kB 0 d]
  show ∑ d ∈ (Finset.univ : Finset (Fin 3)), 1 = 3
  decide

omit [FloatOps F] in
/-- The whole of a send cell's round is the source back, -/
theorem rest_send (t : Fin 16) : bigSep ((Rd (F := F) X).duties (cell c (kS t)) 0 \ ∅) (fun d => (Rd (F := F) X).payload (cell c (kS t)) 0 d) = sendPay X c t := by
  rw [Finset.sdiff_empty, duties_cell]
  show bigSep ({0} : Finset (Fin 3)) _ = _
  rw [bigSep_singleton, payload_cell]; rfl
omit [FloatOps F] in
/-- of a receive cell's the rows received, -/
theorem rest_recv (t : Fin 16) : bigSep ((Rd (F := F) X).duties (cell c (kR t)) 0 \ ∅) (fun d => (Rd (F := F) X).payload (cell c (kR t)) 0 d) = recvPay X c t := by
  rw [Finset.sdiff_empty, duties_cell]
  show bigSep ({0} : Finset (Fin 3)) _ = _
  rw [bigSep_singleton, payload_cell]; rfl
omit [FloatOps F] in
/-- of the barrier's the three partners' rows. -/
theorem rest_bar : bigSep ((Rd (F := F) X).duties (cell c kB) 0 \ ∅) (fun d => (Rd (F := F) X).payload (cell c kB) 0 d)
    = iprop(barPay c 0 ∗ barPay c 1 ∗ barPay c 2) := by
  rw [Finset.sdiff_empty, duties_cell]
  show bigSep (Finset.univ : Finset (Fin 3)) _ = _
  rw [bigSep_univ_eq_bigSepL [0, 1, 2] (by decide) (by decide), bigSepL_cons_cons, bigSepL_cons_cons, bigSepL_singleton,
    payload_cell, payload_cell, payload_cell]
  rfl

end Sched

/-! ## What is owed, and the levels -/

/-- What device `c` owes for the copies `l` still to be issued, the next one last. -/
def Ol (c : Dev nD) : List (Fin 16) → CellTallies nD τ sig Unit
  | [] => 0
  | t :: l => Ol c l + tallyAt (cell (peer t c) (kR t)) () N

/-- The copies in program order. -/
abbrev order : List (Fin 16) := [0, 1, 2, 3, 4, 5, 6, 7, 8, 9, 10, 11, 12, 13, 14, 15]

/-- What device `c` owes at the start: its sixteen copies, and one unit on each partner's barrier. -/
def O₂ (c : Dev nD) : CellTallies nD τ sig Unit := Ol c order + tallyAt (cell (nb 2 c) kB) () 1
def O₁ (c : Dev nD) : CellTallies nD τ sig Unit := O₂ c + tallyAt (cell (nb 1 c) kB) () 1
def O₀ (c : Dev nD) : CellTallies nD τ sig Unit := O₁ c + tallyAt (cell (nb 0 c) kB) () 1

def L (g : GSem nD τ sig) : Finset Unit := if g.1.2 = .tc then {()} else ∅

/-- The level of a cell: the barrier below the copies across `x`, those below the copies that pass their rows on, those
    below the last four; the staging and send cells, waited for with nothing below, at the bottom. -/
def lvK : Option CI → ℕ
  | some (.inr _) => 1
  | some (.inl (.inr t)) => if t.val < 4 then 2 else if t.val < 12 then 3 else 4
  | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CI) (u : Unit) : lv (cell c k) u = lvK (some k) := by
  show lvK (kindOf (csem k)) = _; rw [kindOf_csem]

theorem Ol_pos {c : Dev nD} {l : List (Fin 16)} {g : GSem nD τ sig} {u : Unit} (h : 0 < Ol c l g u) :
    ∃ t ∈ l, g = cell (peer t c) (kR t) := by
  induction l with
  | nil => exact absurd h (Nat.lt_irrefl 0)
  | cons t l ih =>
    unfold Ol at h
    rw [Pi.add_apply, Finsupp.add_apply, tallyAt_apply] at h
    by_cases hg : g = cell (peer t c) (kR t)
    · exact ⟨t, List.mem_cons_self, hg⟩
    · rw [if_neg (fun h' => hg h'.1), Nat.add_zero] at h
      obtain ⟨t', ht', e⟩ := ih h
      exact ⟨t', List.mem_cons_of_mem _ ht', e⟩

theorem O₀_pos {c : Dev nD} {g : GSem nD τ sig} {u : Unit} (h : 0 < O₀ c g u) :
    (∃ t, g = cell (peer t c) (kR t)) ∨ ∃ a, g = cell (nb a c) kB := by
  unfold O₀ O₁ O₂ at h
  rw [Pi.add_apply, Finsupp.add_apply, Pi.add_apply, Finsupp.add_apply, Pi.add_apply, Finsupp.add_apply, tallyAt_apply, tallyAt_apply, tallyAt_apply] at h
  by_cases h0 : g = cell (nb 0 c) kB
  · exact Or.inr ⟨0, h0⟩
  by_cases h1 : g = cell (nb 1 c) kB
  · exact Or.inr ⟨1, h1⟩
  by_cases h2 : g = cell (nb 2 c) kB
  · exact Or.inr ⟨2, h2⟩
  rw [if_neg (fun h' => h2 h'.1), if_neg (fun h' => h1 h'.1), if_neg (fun h' => h0 h'.1)] at h
  simp only [Nat.add_zero] at h
  obtain ⟨t, -, e⟩ := Ol_pos h
  exact Or.inl ⟨t, e⟩

omit [FloatOps F] in
/-- A wait at cell `sm` is allowed while only copies to cells of higher level are owed. -/
theorem mayWait_list (c : Dev nD) (sm : SemLoc sig) (l : List (Fin 16)) (h : ∀ t ∈ l, lvK (kindOf sm) < lvK (some (kR t))) :
    (levAts L lv : sProp 𝕄) ⊢ MayWait (c : Thread nD τ) sm () (Ol c l) :=
  MayOwe.of_cut (L := L) (lev := lv) (lvK (kindOf sm)) (fun p hp => by rw [Finset.mem_singleton.mp hp, L_tc]; exact Finset.mem_singleton_self _)
    (fun g u hg => by obtain ⟨t, -, e⟩ := Ol_pos hg; rw [e]; exact Finset.mem_singleton_self _)
    (fun p hp => by rw [Finset.mem_singleton.mp hp]; exact le_refl _)
    (fun g u hg => by obtain ⟨t, ht, e⟩ := Ol_pos hg; rw [e, lv_cell]; exact h t ht)

omit [FloatOps F] in
/-- The staging pipeline's waits are allowed at the start and at the end. -/
theorem mayWait_stage (c : Dev nD) (q : DmaSem sig) (hq : slot q.val = none) (O : CellTallies nD τ sig Unit) (hO : O = O₀ c ∨ O = 0) :
    (levAts L lv : sProp 𝕄) ⊢ MayWait (c : Thread nD τ) (.dma q) () O := by
  have h0 : lvK (kindOf (.dma q)) = 0 := by show lvK ((slot q.val).map .inl) = 0; rw [hq]; rfl
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨a, rfl⟩ <;> exact Finset.mem_singleton_self _)
      (fun p hp => by rw [Finset.mem_singleton.mp hp]; exact le_of_eq h0)
      (fun g u hg => by
        rcases O₀_pos hg with ⟨t, rfl⟩ | ⟨a, rfl⟩
        · rw [lv_cell]; show 0 < (if t.val < 4 then 2 else if t.val < 12 then 3 else 4); split
          · omega
          · split <;> omega
        · rw [lv_cell]; decide)
  · rw [MayWait_zero]; iintro -; iempintro

end Cert.KernelIdealProof

end
-- ==== Proof.KernelIdeal.Steps.lean ====
/-
The rules the kernel's body is executed by: one for each kind of step, each saying what it takes and what it
gives back — a wait for a landing, a wait for an issue's completion, the issue of a copy across `x`, the issue of
a copy passing received rows on, the filling of a scratch block, the copying of the device's own rows.
-/
module

public import proofs.«01_k».proof.Proof.KernelIdeal.Schedule

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- A program of device `c`'s core, run from here. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (X : Dev nD → (cc0_stg0_0 : Ref sig .tc).ty.Contents (Elt F))

/-! ## What every step may use: every cell's invariant, that every cell's round is reached, the levels -/

def records (K : Dev nD × CI → ℕ) : sProp 𝕄 :=
  iprop((bigSep Finset.univ fun ck : Dev nD × CI => cellInv ER (Rd X) (K ck) (cell ck.1 ck.2))
    ∗ bigSep Finset.univ fun ck : Dev nD × CI => reached ER (cell ck.1 ck.2) 0)
def ctx (K : Dev nD × CI → ℕ) : sProp 𝕄 := iprop(records X K ∗ levAts L lv)

omit [FloatOps F] in
instance records_persistent (K : Dev nD × CI → ℕ) : BI.Persistent (records (F := F) X K) := by unfold records; infer_instance
omit [FloatOps F] in
instance ctx_persistent (K : Dev nD × CI → ℕ) : BI.Persistent (ctx (F := F) X K) := by unfold ctx; infer_instance

variable (K : Dev nD × CI → ℕ) (c : Dev nD)

omit [FloatOps F] in
theorem ctx_inv (d : Dev nD) (k : CI) : (ctx (F := F) X K) ⊢ cellInv ER (Rd X) (K (d, k)) (cell d k) := by
  unfold ctx records
  have h : (bigSep Finset.univ fun ck : Dev nD × CI => (cellInv ER (Rd (F := F) X) (K ck) (cell ck.1 ck.2) : sProp 𝕄))
      ⊢ cellInv ER (Rd X) (K (d, k)) (cell d k) := bigSep_elim (Finset.mem_univ (d, k))
  iintro ⟨⟨H, -⟩, -⟩
  iapply h; iexact H
omit [FloatOps F] in
theorem ctx_reached (d : Dev nD) (k : CI) : (ctx (F := F) X K) ⊢ reached ER (cell d k) 0 := by
  unfold ctx records
  have h : (bigSep Finset.univ fun ck : Dev nD × CI => (reached ER (cell ck.1 ck.2) 0 : sProp 𝕄))
      ⊢ reached ER (cell d k) 0 := bigSep_elim (Finset.mem_univ (d, k))
  iintro ⟨⟨-, H⟩, -⟩
  iapply h; iexact H
omit [FloatOps F] in
theorem ctx_lev : (ctx (F := F) X K) ⊢ levAts L lv := by
  unfold ctx; iintro ⟨-, H⟩; iexact H

/-! ## What is held for a copy -/

/-- What device `c` owes, whatever it has waited for. -/
def owesX (O : CellTallies nD τ sig Unit) : sProp 𝕄 := iprop(∃ W, owes (c : Thread nD τ) O W)

/-- Before copy `t` is issued: the rights to raise its two cells, the place at its send cell, and the rows it writes. -/
def txReady (t : Fin 16) : sProp 𝕄 :=
  iprop(dutyTok ER (cell c (kS t)) 0 0 ∗ dutyTok ER (cell (peer t c) (kR t)) 0 0 ∗ atPos ER (cell c (kS t)) 0 ∅ 0
    ∗ ∃ f, chPts (peer t c) (row t c) fullShare f)
/-- After: the place at the send cell and the credit to come. -/
def txSent (t : Fin 16) : sProp 𝕄 := iprop(cred (tallyAt (cell c (kS t)) () N) ∗ atPos ER (cell c (kS t)) 0 ∅ 0)
/-- Before the partner's copy `t` is waited for: the same at the receive cell. -/
def rxReady (t : Fin 16) : sProp 𝕄 := iprop(cred (tallyAt (cell c (kR t)) () N) ∗ atPos ER (cell c (kR t)) 0 ∅ 0)

/-- The argument's block; a block of the scratch holding the quarter to send. -/
def xPts : sProp 𝕄 := ((c : Thread nD τ).loc cc0_stg0_0) ↦{fullShare} (X c)
def stFull (k : Fin 4) : sProp 𝕄 :=
  iprop(∃ f : Buf (Elt F) ((c : Thread nD τ).loc cc0_scratch0),
    ⌜∀ h, (sSl ![k.val, 0, 0] h).view.read (Elt F) f = carried X c k⌝ ∗ stPts c k f)

/-! ## Waits -/

/-- A wait for the whole round of one of the device's own cells: the round's payload comes, and the cell is closed. -/
theorem wp_wait (k : OI) (l : List (Fin 16)) (P : sProp 𝕄)
    (hP : bigSep ((Rd (F := F) X).duties (cell c (.inl k)) 0 \ ∅) (fun d => (Rd (F := F) X).payload (cell c (.inl k)) 0 d) = P)
    (hl : ∀ t ∈ l, lvK (some (.inl k)) < lvK (some (kR t)))
    {q : DmaSem sig} (hq : SemLoc.dma q = osem k) {sp sp' : Space} {s s' : Shape} {e e' : EltTy}
    {src : Memref sig .tc sp' s' e'} {dst : Memref sig .tc sp s e} {hsrc : src.view.WordExact} {hdst : dst.view.WordExact}
    (hN : dst.view.dmaCredit = N) {α : Type} {Q : α → sProp 𝕄} {kk : PUnit → Prog (TpuEff nD τ sig (Elt F) Λ₀ .tc) α} :
    iprop(ctx X K ∗ cred (tallyAt (cell c (.inl k)) () N) ∗ atPos ER (cell c (.inl k)) 0 ∅ 0 ∗ owesX c (Ol c l))
      ⊢ iprop(((owesX c (Ol c l) ∗ semVal (cell c (.inl k)) 0 ∗ P) -∗ run c (kk ⟨⟩) Q)
        -∗ run c (.op (.waitDma2 q src dst hsrc hdst) kk) Q) := by
  subst hP
  have hc : ((c : Thread nD τ), SemLoc.dma q) = cell c (.inl k) := by rw [hq]; rfl
  have hlev : (levAts L lv : sProp 𝕄) ⊢ MayWait (c : Thread nD τ) (.dma q) () (Ol c l) :=
    mayWait_list c _ l fun t ht => by
      have e : kindOf (.dma q) = some (.inl k) := by rw [hq]; exact kindOf_csem (.inl k)
      rw [e]; exact hl t ht
  unfold owesX
  rw [← hc]
  iintro ⟨#Hctx, Hc, Hat, ⟨%W, HO⟩⟩ Hk
  ihave #HI := (ctx_inv X K c (.inl k)) $$ Hctx
  rw [← hc]
  ihave #HL := (ctx_lev X K) $$ Hctx
  iapply (Rounds.wp_wait_rest_token 𝒱₀ ER (Rd X) (c : Thread nD τ) none (κ := K (c, .inl k))
      (wpE_waitDma2_eq 𝒱₀ (c : Thread nD τ) none Set.univ) (Set.mem_univ _) () (O := Ol c l) (W := W) (R := 0) (m := 0) (T := ∅)
      (by rw [Nat.zero_add, hc, expect_own]; exact hN)) $$ [Hc HO Hat]
  · isplitr; · iexact HI
    isplitl [Hc]; · rw [hN]; iexact Hc
    isplitl [HO]; · iexact HO
    isplitr; · iapply hlev; iexact HL
    iexact Hat
  iintro ⟨HO, Hat, -, Hpay⟩
  imod (Rounds.cell_close ER (Rd X) (Set.mem_univ (K (c, .inl k))) (fun h => h) (R := 0 + 1) (duties_later X _)) $$ [Hat] with Hz
  · isplitr; · iexact HI
    iexact Hat
  iapply Hk
  isplitl [HO]; · iexists _; iexact HO
  isplitl [Hz]; · iexact Hz
  iexact Hpay

/-- A block of the scratch is worth the credit of 128 rows of the result: the same shape and element type. -/
theorem sSl_credit {off : Fin 3 → ℕ} (h : ∀ a, off a + S1x128x512.size a ≤ S4x128x512.size a) : (sSl off h).view.dmaCredit = N := by
  have e : sig.dmaCredit .tc (Kind.tc.table .vmem) cc0_scratch0.idx S128x512 .bf16
      = sig.dmaCredit .tc (Kind.tc.table .vmem) cc0_stg1_0.idx S128x512 .bf16 := by decide +kernel
  exact e

/-- The wait for the landing of the partner's copy `t`. -/
theorem wp_wait_recv (t : Fin 16) (l : List (Fin 16)) (hl : ∀ t' ∈ l, lvK (some (kR t)) < lvK (some (kR t')))
    {q : DmaSem sig} (hq : q = recvQ t) {off : Fin 2 → ℕ} {h : ∀ a, off a + S128x512.size a ≤ S4096x512.size a} {sp' : Space} {s' : Shape} {e' : EltTy}
    {src : Memref sig .tc sp' s' e'} {hsrc : src.view.WordExact} {hdst : (oSl off h).view.WordExact}
    {α : Type} {Q : α → sProp 𝕄} {kk : PUnit → Prog (TpuEff nD τ sig (Elt F) Λ₀ .tc) α} :
    iprop(ctx X K ∗ rxReady c t ∗ owesX c (Ol c l))
      ⊢ iprop(((owesX c (Ol c l) ∗ semVal (cell c (kR t)) 0 ∗ recvPay X c t) -∗ run c (kk ⟨⟩) Q)
        -∗ run c (.op (.waitDma2 q src (oSl off h) hsrc hdst) kk) Q) := by
  unfold rxReady
  iintro ⟨#Hctx, ⟨Hc, Hat⟩, HO⟩
  iapply (wp_wait X K c (.inr t) l (recvPay X c t) (rest_recv X c t) hl (congrArg SemLoc.dma hq) (dst := oSl off h) rfl)
  isplitr; · iexact Hctx
  isplitl [Hc]; · iexact Hc
  isplitl [Hat]; · iexact Hat
  iexact HO

/-- The wait for the completed issue of copy `t`, told as so many elements of the result; -/
theorem wp_wait_send (t : Fin 16)
    {q : DmaSem sig} (hq : q = sendQ t) {off : Fin 2 → ℕ} {h : ∀ a, off a + S128x512.size a ≤ S4096x512.size a} {sp' : Space} {s' : Shape} {e' : EltTy}
    {src : Memref sig .tc sp' s' e'} {hsrc : src.view.WordExact} {hdst : (oSl off h).view.WordExact}
    {α : Type} {Q : α → sProp 𝕄} {kk : PUnit → Prog (TpuEff nD τ sig (Elt F) Λ₀ .tc) α} :
    iprop(ctx X K ∗ txSent c t ∗ owesX c (Ol c []))
      ⊢ iprop(((owesX c (Ol c []) ∗ semVal (cell c (kS t)) 0 ∗ sendPay X c t) -∗ run c (kk ⟨⟩) Q)
        -∗ run c (.op (.waitDma2 q src (oSl off h) hsrc hdst) kk) Q) := by
  unfold txSent
  iintro ⟨#Hctx, ⟨Hc, Hat⟩, HO⟩
  iapply (wp_wait X K c (.inl t) [] (sendPay X c t) (rest_send X c t) (fun t' ht' => absurd ht' List.not_mem_nil) (congrArg SemLoc.dma hq) (dst := oSl off h) rfl)
  isplitr; · iexact Hctx
  isplitl [Hc]; · iexact Hc
  isplitl [Hat]; · iexact Hat
  iexact HO

/-- told as so many elements of the scratch. -/
theorem wp_wait_send_x (t : Fin 16)
    {q : DmaSem sig} (hq : q = sendQ t) {off : Fin 3 → ℕ} {h : ∀ a, off a + S1x128x512.size a ≤ S4x128x512.size a} {sp' : Space} {s' : Shape} {e' : EltTy}
    {src : Memref sig .tc sp' s' e'} {hsrc : src.view.WordExact} {hdst : (sSl off h).view.WordExact}
    {α : Type} {Q : α → sProp 𝕄} {kk : PUnit → Prog (TpuEff nD τ sig (Elt F) Λ₀ .tc) α} :
    iprop(ctx X K ∗ txSent c t ∗ owesX c (Ol c []))
      ⊢ iprop(((owesX c (Ol c []) ∗ semVal (cell c (kS t)) 0 ∗ sendPay X c t) -∗ run c (kk ⟨⟩) Q)
        -∗ run c (.op (.waitDma2 q src (sSl off h) hsrc hdst) kk) Q) := by
  unfold txSent
  iintro ⟨#Hctx, ⟨Hc, Hat⟩, HO⟩
  iapply (wp_wait X K c (.inl t) [] (sendPay X c t) (rest_send X c t) (fun t' ht' => absurd ht' List.not_mem_nil) (congrArg SemLoc.dma hq) (dst := sSl off h) (sSl_credit h))
  isplitr; · iexact Hctx
  isplitl [Hc]; · iexact Hc
  isplitl [Hat]; · iexact Hat
  iexact HO

/-! ## Issues -/

omit [FloatOps F] in
theorem peer_half : ∀ (t : Fin 16) (c : Dev nD), 4 ≤ t.val → c.val / 4 = (peer t c).val / 4 := by decide +kernel
omit [FloatOps F] in
theorem row_form : ∀ (t : Fin 16) (c : Dev nD), 4 ≤ t.val → row t c / 2048 ≠ c.val / 4 ∧ row t c % 128 = 0 := by decide +kernel
omit [FloatOps F] in
theorem rowIn_peer (t : Fin 16) (c : Dev nD) : rowIn t (peer t c) = row t c := by unfold rowIn; rw [peer_peer]

/-- The issue of a copy that passes received rows on. -/
theorem wp_send_out (t : Fin 16) (ht : 4 ≤ t.val) (l : List (Fin 16)) {n : Dev nD} (hn : n = peer t c)
    {off : Fin 2 → ℕ} {h : ∀ a, off a + S128x512.size a ≤ S4096x512.size a} (ho : off = ![row t c, 0])
    {qs qr : DmaSem sig} (hqs : qs = sendQ t) (hqr : qr = recvQ t)
    {hsc : (oSl off h : Memref sig (Dev.tc n : Thread nD τ).2.kind .vmem S128x512 .bf16).view.ref.isScScratch = false}
    {hsrc : (oSl off h).view.WordExact} {hdst : (oSl off h : Memref sig (Dev.tc n : Thread nD τ).2.kind .vmem S128x512 .bf16).view.WordExact}
    {hsem : DmaTarget.Typed .vmem (.dma qr) (.remote (Dev.tc n : Thread nD τ) (oSl off h) (.dma qs) hsc)}
    {α : Type} {Q : α → sProp 𝕄} {kk : PUnit → Prog (TpuEff nD τ sig (Elt F) Λ₀ .tc) α} :
    iprop(ctx X K ∗ txReady c t ∗ chPts c (row t c) (shareOf t) (G X c) ∗ owesX c (Ol c (t :: l)))
      ⊢ iprop(((txSent c t ∗ owesX c (Ol c l)) -∗ run c (kk ⟨⟩) Q)
        -∗ run c (.op (.enqueueDma (oSl off h) (.remote (Dev.tc n : Thread nD τ) (oSl off h) (.dma qs) hsc) (.dma qr) hsrc hdst hsem) kk) Q) := by
  subst hn hqs hqr
  unfold txReady txSent owesX chPts
  rw [← oSl_set h ho]
  iintro ⟨#Hctx, ⟨Ht1, Ht2, Hat, ⟨%fn, Hd⟩⟩, Hs, ⟨%W, HO⟩⟩ Hk
  ihave #HI1 := (ctx_inv X K c (kS t)) $$ Hctx
  ihave #HI2 := (ctx_inv X K (peer t c) (kR t)) $$ Hctx
  ihave #HR1 := (ctx_reached X K c (kS t)) $$ Hctx
  ihave #HR2 := (ctx_reached X K (peer t c) (kR t)) $$ Hctx
  iapply (Rounds.wp_send_pointsTo 𝒱₀ ER (Rd X) (c : Thread nD τ) none (κ₁ := K (c, kS t)) (κ₂ := K (peer t c, kR t))
    (c' := (peer t c : Thread nD τ)) (src := oSl off h) (dst := oSl off h) (sS := .dma (sendQ t)) (sem := .dma (recvQ t)) (q := shareOf t) (fs := G X c)
    (r₁ := 0) (r₂ := 0) (d₁ := 0) (d₂ := 0) (fd := fn)
    (by rw [show ((c : Thread nD τ), SemLoc.dma (sendQ t)) = cell c (kS t) from rfl, duties_cell]; exact Finset.mem_singleton_self _)
    (by rw [show ((peer t c : Thread nD τ), SemLoc.dma (recvQ t)) = cell (peer t c) (kR t) from rfl, duties_cell]; exact Finset.mem_singleton_self _)
    () () N rfl (amount_cell X c (kS t) 0 0) (amount_cell X (peer t c) (kR t) 0 0) (Ol c l) rfl (W := W)
    (by
      rw [show ((c : Thread nD τ), SemLoc.dma (sendQ t)) = cell c (kS t) from rfl, payload_cell]
      show _ ⊢ sendPay X c t
      unfold sendPay; rw [dif_neg (by omega)]; unfold chPts
      rw [oSl_set h ho])
    (by
      rw [show ((peer t c : Thread nD τ), SemLoc.dma (recvQ t)) = cell (peer t c) (kR t) from rfl, payload_cell]
      show _ ⊢ recvPay X (peer t c) t
      unfold recvPay chPts
      rw [oSl_set h ho, rowIn_peer]
      exact Entails.of_eq (pointsTo_congr (landed_fwd X h ho c (peer t c) (peer_half t c ht) (row_form t c ht).1 (row_form t c ht).2 fn))))
    $$ [Ht1 Ht2 Hd Hs HO]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitr [HO]
  · isplitl [Hc]; · iexact Hc
    iexact Hat
  iexists W; iexact HO

/-- The issue of a copy across `x`. -/
theorem wp_send_x (k : Fin 4) (l : List (Fin 16)) {n : Dev nD} (hn : n = peer (tX k) c)
    {off : Fin 2 → ℕ} {h : ∀ a, off a + S128x512.size a ≤ S4096x512.size a} (ho : off = ![row (tX k) c, 0])
    {h' : ∀ a, (![k.val, 0, 0] : Fin 3 → ℕ) a + S1x128x512.size a ≤ S4x128x512.size a}
    {qs qr : DmaSem sig} (hqs : qs = sendQ (tX k)) (hqr : qr = recvQ (tX k))
    {hsc : (oSl off h : Memref sig (Dev.tc n : Thread nD τ).2.kind .vmem S128x512 .bf16).view.ref.isScScratch = false}
    {hsrc : (sSl ![k.val, 0, 0] h').view.WordExact} {hdst : (oSl off h : Memref sig (Dev.tc n : Thread nD τ).2.kind .vmem S128x512 .bf16).view.WordExact}
    {hsem : DmaTarget.Typed .vmem (.dma qr) (.remote (Dev.tc n : Thread nD τ) (oSl off h) (.dma qs) hsc)}
    {α : Type} {Q : α → sProp 𝕄} {kk : PUnit → Prog (TpuEff nD τ sig (Elt F) Λ₀ .tc) α} :
    iprop(ctx X K ∗ txReady c (tX k) ∗ stFull X c k ∗ owesX c (Ol c (tX k :: l)))
      ⊢ iprop(((txSent c (tX k) ∗ owesX c (Ol c l)) -∗ run c (kk ⟨⟩) Q)
        -∗ run c (.op (.enqueueDma (sSl ![k.val, 0, 0] h') (.remote (Dev.tc n : Thread nD τ) (oSl off h) (.dma qs) hsc) (.dma qr) hsrc hdst hsem) kk) Q) := by
  subst hn hqs hqr
  unfold txReady txSent owesX chPts stFull stPts
  rw [← oSl_set h ho, ← sSl_set k h']
  iintro ⟨#Hctx, ⟨Ht1, Ht2, Hat, ⟨%fn, Hd⟩⟩, ⟨%fs, %hfs, Hs⟩, ⟨%W, HO⟩⟩ Hk
  ihave #HI1 := (ctx_inv X K c (kS (tX k))) $$ Hctx
  ihave #HI2 := (ctx_inv X K (peer (tX k) c) (kR (tX k))) $$ Hctx
  ihave #HR1 := (ctx_reached X K c (kS (tX k))) $$ Hctx
  ihave #HR2 := (ctx_reached X K (peer (tX k) c) (kR (tX k))) $$ Hctx
  iapply (Rounds.wp_send_pointsTo 𝒱₀ ER (Rd X) (c : Thread nD τ) none (κ₁ := K (c, kS (tX k))) (κ₂ := K (peer (tX k) c, kR (tX k)))
    (c' := (peer (tX k) c : Thread nD τ)) (src := sSl ![k.val, 0, 0] h') (dst := oSl off h) (sS := .dma (sendQ (tX k))) (sem := .dma (recvQ (tX k))) (q := fullShare) (fs := fs)
    (r₁ := 0) (r₂ := 0) (d₁ := 0) (d₂ := 0) (fd := fn)
    (by rw [show ((c : Thread nD τ), SemLoc.dma (sendQ (tX k))) = cell c (kS (tX k)) from rfl, duties_cell]; exact Finset.mem_singleton_self _)
    (by rw [show ((peer (tX k) c : Thread nD τ), SemLoc.dma (recvQ (tX k))) = cell (peer (tX k) c) (kR (tX k)) from rfl, duties_cell]; exact Finset.mem_singleton_self _)
    () () N rfl (amount_cell X c (kS (tX k)) 0 0) (amount_cell X (peer (tX k) c) (kR (tX k)) 0 0) (Ol c l) rfl (W := W)
    (by
      rw [show ((c : Thread nD τ), SemLoc.dma (sendQ (tX k))) = cell c (kS (tX k)) from rfl, payload_cell]
      show _ ⊢ sendPay X c (tX k)
      unfold sendPay; rw [dif_pos k.isLt]; unfold stPts
      rw [sSl_set k h']
      iintro H; iexists fs; iexact H)
    (by
      rw [show ((peer (tX k) c : Thread nD τ), SemLoc.dma (recvQ (tX k))) = cell (peer (tX k) c) (kR (tX k)) from rfl, payload_cell]
      show _ ⊢ recvPay X (peer (tX k) c) (tX k)
      unfold recvPay chPts
      rw [oSl_set h ho, rowIn_peer, hfs h']
      have e : peer (tX k) c = nb 0 c := by unfold peer axisOf; rw [if_pos k.isLt]
      exact Entails.of_eq (pointsTo_congr (fun i hi => (landed_x X k c h ho fn i hi).trans (by rw [e])))))
    $$ [Ht1 Ht2 Hd Hs HO]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitr [HO]
  · isplitl [Hc]; · iexact Hc
    iexact Hat
  iexists W; iexact HO

/-! ## Loads and stores -/

/-- The load of the quarter to send. -/
theorem wp_load_x (k : Fin 4) {off : Fin 2 → ℕ} {h : ∀ a, off a + S128x512.size a ≤ S2048x1024.size a}
    (ho : off = ![1024 * ((c.val / 2) % 2) + 512 * (c.val % 2) + 128 * k.val, 512 - 512 * (c.val / 4)])
    {hl : xM.view.LoadsAt (Rect.unit (s := S2048x1024) off S128x512.size h).toLoadRect}
    {α : Type} {Q : α → sProp 𝕄} {kk : (S128x512.Idx → Elt F .bf16) → Prog (TpuEff nD τ sig (Elt F) Λ₀ .tc) α} :
    xPts X c ⊢ iprop((xPts X c -∗ run c (kk (carried X c k)) Q)
      -∗ run c (.op (.load xM (Rect.unit (s := S2048x1024) off S128x512.size h).toLoadRect hl) kk) Q) := by
  unfold xPts
  iintro Hx Hk
  iapply (wp_load 𝒱₀ (c : Thread nD τ) none Set.univ (m := xM) (Finset.subset_univ _)) $$ Hx; iintro Hx
  rw [read_block X k c h ho]
  iapply Hk; iexact Hx

/-- The scratch block is filled: a load of it that is not used, and the store. -/
theorem wp_fill (k : Fin 4) {h h' : ∀ a, (![k.val, 0, 0] : Fin 3 → ℕ) a + S1x128x512.size a ≤ S4x128x512.size a}
    {w : S1x128x512.Idx → Elt F .bf16} (hw : w = shapeCast (α := Elt F .bf16) S1x128x512 (carried X c k) shapeCasts_S128x512_S1x128x512)
    {hl : sM.view.LoadsAt (Rect.unit (s := S4x128x512) ![k.val, 0, 0] S1x128x512.size h').toLoadRect}
    {hx : (sM.access (Rect.unit (s := S4x128x512) ![k.val, 0, 0] S1x128x512.size h) : View sig .tc _ _ _).Stores Finset.univ}
    {hm : (Finset.univ : Finset S1x128x512.Idx) = Finset.univ ∨ ∀ a, (Rect.unit (s := S4x128x512) ![k.val, 0, 0] S1x128x512.size h).stride a = 1}
    {α : Type} {Q : α → sProp 𝕄} {kk : PUnit → Prog (TpuEff nD τ sig (Elt F) Λ₀ .tc) α} :
    iprop(∃ f, stPts c k f) ⊢ iprop((stFull X c k -∗ run c (kk ⟨⟩) Q)
      -∗ run c (.op (.load sM (Rect.unit (s := S4x128x512) ![k.val, 0, 0] S1x128x512.size h').toLoadRect hl) fun _ =>
          .op (.store sM (Rect.unit (s := S4x128x512) ![k.val, 0, 0] S1x128x512.size h) w Finset.univ hx hm) kk) Q) := by
  have hs : ((sM.access (Rect.unit (s := S4x128x512) ![k.val, 0, 0] S1x128x512.size h)) : View sig .tc _ _ _).set = stBlk k :=
    (View.set_slice_whole _ _).trans (set_stBlk k h)
  unfold stFull stPts
  iintro ⟨%f, Hs⟩ Hk
  iapply (wp_load_rect 𝒱₀ (c : Thread nD τ) none Set.univ (m := sM) (r := Rect.unit (s := S4x128x512) ![k.val, 0, 0] S1x128x512.size h') (le_of_eq hs)) $$ Hs; iintro Hs
  iapply (wp_store 𝒱₀ (c : Thread nD τ) none Set.univ (m := sM) (r := Rect.unit (s := S4x128x512) ![k.val, 0, 0] S1x128x512.size h) (Mk := Finset.univ)
    (le_of_eq ((View.setOn_univ _).trans hs))) $$ Hs; iintro Hs
  iapply Hk
  iexists _
  isplitr
  · ipureintro; exact fun h'' => staged h f (carried X c k) w hw
  iexact Hs

/-- The device's own rows are copied: the block's columns loaded, a load that is not used, and the store. -/
theorem wp_own {off off' : Fin 2 → ℕ} {h : ∀ a, off a + S2048x512.size a ≤ S2048x1024.size a} {h' h'' : ∀ a, off' a + S2048x512.size a ≤ S4096x512.size a}
    (e : off = ![0, 512 * (c.val / 4)]) (e' : off' = ![2048 * (c.val / 4), 0])
    {hl : xM.view.LoadsAt (Rect.unit (s := S2048x1024) off S2048x512.size h).toLoadRect}
    {hl' : oM.view.LoadsAt (Rect.unit (s := S4096x512) off' S2048x512.size h'').toLoadRect}
    {hx : (oM.access (Rect.unit (s := S4096x512) off' S2048x512.size h') : View sig .tc _ _ _).Stores Finset.univ}
    {hm : (Finset.univ : Finset S2048x512.Idx) = Finset.univ ∨ ∀ a, (Rect.unit (s := S4096x512) off' S2048x512.size h').stride a = 1}
    {α : Type} {Q : α → sProp 𝕄} {kk : PUnit → Prog (TpuEff nD τ sig (Elt F) Λ₀ .tc) α} :
    iprop(xPts X c ∗ ∃ f, ((c : Thread nD τ).loc cc0_stg1_0) ↦[half c]{fullShare} f)
      ⊢ iprop(((xPts X c ∗ (((c : Thread nD τ).loc cc0_stg1_0) ↦[half c]{fullShare} (G X c))) -∗ run c (kk ⟨⟩) Q)
      -∗ run c (.op (.load xM (Rect.unit (s := S2048x1024) off S2048x512.size h).toLoadRect hl) fun v =>
          .op (.load oM (Rect.unit (s := S4096x512) off' S2048x512.size h'').toLoadRect hl') fun _ =>
          .op (.store oM (Rect.unit (s := S4096x512) off' S2048x512.size h') (k0_pay6 (F := F) v) Finset.univ hx hm) kk) Q) := by
  have hs : ((oM.access (Rect.unit (s := S4096x512) off' S2048x512.size h')) : View sig .tc _ _ _).set = half c :=
    (View.set_slice_whole _ _).trans (set_half h' e')
  unfold xPts
  iintro ⟨Hx, ⟨%f, Ho⟩⟩ Hk
  iapply (wp_load 𝒱₀ (c : Thread nD τ) none Set.univ (m := xM) (Finset.subset_univ _)) $$ Hx; iintro Hx
  iapply (wp_load_rect 𝒱₀ (c : Thread nD τ) none Set.univ (m := oM) (r := Rect.unit (s := S4096x512) off' S2048x512.size h'') (le_of_eq hs)) $$ Ho; iintro Ho
  iapply (wp_store 𝒱₀ (c : Thread nD τ) none Set.univ (m := oM) (r := Rect.unit (s := S4096x512) off' S2048x512.size h') (Mk := Finset.univ)
    (le_of_eq ((View.setOn_univ _).trans hs))) $$ Ho; iintro Ho
  iapply Hk
  isplitl [Hx]; · iexact Hx
  ihave Ho := (Entails.of_eq (pointsTo_congr (stored_half X c h h' e e' f))) $$ Ho
  iexact Ho

end Cert.KernelIdealProof

end
-- ==== Proof.KernelIdeal.Front.lean ====
/-
The first five parts of the kernel's body, executed step by step: the handshake with the three partners, the
filling and sending of the four quarters that go across `x`, and the copying of the device's own rows.
-/
module

public import proofs.«01_k».proof.Proof.KernelIdeal.Steps

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → (cc0_stg0_0 : Ref sig .tc).ty.Contents (Elt F)) (K : Dev nD × CI → ℕ) (c : Dev nD)

/-! ## The barrier -/

/-- The rows of `c`'s result its partner across axis `a` writes, at any contents. -/
def outIn (a : Fin 3) : sProp 𝕄 :=
  bigSep (Finset.univ.filter fun t : Fin 16 => axisOf t = a) fun t => iprop(∃ f, chPts (F := F) c (rowIn t c) fullShare f)

omit [FloatOps F] in
/-- They are what `c`'s signal hands that partner. -/
theorem outIn_bar (a : Fin 3) : outIn (F := F) c a ⊢ (Rd X).payload (cell (nb a c) kB) 0 a := by
  rw [payload_cell]
  show _ ⊢ barPay (nb a c) a
  unfold outIn barPay
  refine bigSep_mono fun t ht => ?_
  have e : axisOf t = a := (Finset.mem_filter.mp ht).2
  have h1 : nb a (nb a c) = c := nb_nb a c
  have h2 : rowIn t c = row t (nb a c) := by unfold rowIn peer; rw [e]
  rw [h1, h2]; exact BI.Entails.refl _

/-- A signal to the partner across axis `a`. -/
theorem wp_signal_nb (a : Fin 3) {n : Dev nD} (hn : n = nb a c) (O O' : CellTallies nD τ sig Unit) (hO : O = O' + tallyAt (cell (nb a c) kB) () 1)
    {α : Type} {Q : α → sProp 𝕄} {kk : PUnit → Prog (TpuEff nD τ sig (Elt F) Λ₀ .tc) α} :
    iprop(ctx X K ∗ owesX c O ∗ dutyTok ER (cell (nb a c) kB) 0 a ∗ outIn c a)
      ⊢ iprop((owesX c O' -∗ run c (kk ⟨⟩) Q) -∗ run c (.op (.semSignal (Dev.tc n : Thread nD τ) barS 1) kk) Q) := by
  subst hn
  unfold owesX
  iintro ⟨#Hctx, ⟨%W, HO⟩, Ht, Hp⟩ Hk
  ihave #HI := (ctx_inv X K (nb a c) kB) $$ Hctx
  ihave #HR := (ctx_reached X K (nb a c) kB) $$ Hctx
  iapply (Rounds.wp_signal 𝒱₀ ER (Rd X) (c : Thread nD τ) none (dst := (nb a c : Thread nD τ)) (κ := K (nb a c, kB))
      (d := a) (by rw [show ((nb a c : Thread nD τ), SemLoc.reg barS) = cell (nb a c) kB from rfl, duties_cell]; exact Finset.mem_univ _)
      (amount_cell X (nb a c) kB 0 a) () O' hO) $$ [HO Ht Hp]
  · isplitr; · iexact HI
    isplitl [HO]; · iexact HO
    isplitl [Ht]; · iexact Ht
    isplitl [Hp]; · iapply (show outIn c a ⊢ (Rd X).payload ((nb a c : Thread nD τ), SemLoc.reg barS) 0 a from outIn_bar X c a); iexact Hp
    iexact HR
  iintro HO
  iapply Hk; iexists W; iexact HO

/-- The wait for the three partners' signals: the rows `c`'s copies write are handed over. -/
theorem wp_wait_bar {α : Type} {Q : α → sProp 𝕄} {kk : PUnit → Prog (TpuEff nD τ sig (Elt F) Λ₀ .tc) α} :
    iprop(ctx X K ∗ owesX c (Ol c order) ∗ cred (tallyAt (cell c kB) () 3) ∗ atPos ER (cell c kB) 0 ∅ 0)
      ⊢ iprop(((owesX c (Ol c order) ∗ semVal (cell c kB) 0 ∗ barPay c 0 ∗ barPay c 1 ∗ barPay c 2) -∗ run c (kk ⟨⟩) Q)
        -∗ run c (.op (.semWait barS 3) kk) Q) := by
  unfold owesX
  iintro ⟨#Hctx, ⟨%W, HO⟩, Hc, Hat⟩ Hk
  ihave #HI := (ctx_inv X K c kB) $$ Hctx
  ihave #HL := (ctx_lev X K) $$ Hctx
  iapply (Rounds.wp_wait_rest_token 𝒱₀ ER (Rd X) (c : Thread nD τ) none (κ := K (c, kB))
      (wpE_semWait_eq 𝒱₀ (c : Thread nD τ) none Set.univ) (Set.mem_univ _) () (O := Ol c order) (W := W) (R := 0) (m := 0) (T := ∅)
      (by rw [Nat.zero_add]; exact (expect_bar X c).symm)) $$ [Hc HO Hat]
  · isplitr; · iexact HI
    isplitl [Hc]; · iexact Hc
    isplitl [HO]; · iexact HO
    isplitr; · iapply (mayWait_list c (.reg barS) order (by decide)); iexact HL
    iexact Hat
  iintro ⟨HO, Hat, -, Hpay⟩
  ihave Hp := (show bigSep ((Rd X).duties ((c : Thread nD τ), SemLoc.reg barS) 0 \ ∅) (fun d => (Rd X).payload ((c : Thread nD τ), SemLoc.reg barS) 0 d)
      ⊢ iprop(barPay c 0 ∗ barPay c 1 ∗ barPay c 2) from Entails.of_eq (rest_bar X c)) $$ Hpay
  imod (Rounds.cell_close ER (Rd X) (Set.mem_univ (K (c, kB))) (fun h => h) (R := 0 + 1) (duties_later X _)) $$ [Hat] with Hz
  · isplitr; · iexact HI
    iexact Hat
  iapply Hk
  isplitl [HO]; · iexists _; iexact HO
  isplitl [Hz]; · iexact Hz
  iexact Hp

/-! ## The parts -/

/-- The first part tells the partners across `x` and across `y`; the words it computes do not matter. -/
theorem part1_ok (Kt : (Σ' (d0 : Dev nD) (v2 : BitVec 32) (v5 : BitVec 32) (v8 : BitVec 32) (v9 : BitVec 32) (v10 : BitVec 32) (v11 : BitVec 32) (v13 : BitVec 32) (v16 : BitVec 32) (v19 : BitVec 32), Sems sig S_) → sProp 𝕄) :
    iprop(ctx X K ∗ owesX c (O₀ c) ∗ dutyTok ER (cell (nb 0 c) kB) 0 0 ∗ outIn c 0 ∗ dutyTok ER (cell (nb 1 c) kB) 0 1 ∗ outIn c 1
        ∗ (∀ v2 v5 v8 v9 v10 v11 v13 v16 v19, owesX c (O₂ c) -∗ Kt ⟨c, v2, v5, v8, v9, v10, v11, v13, v16, v19, SemArray.scalar (sig.barrier 0 rfl)⟩))
      ⊢ run c (k0_part1 (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10) Kt := by
  rw [k0_part1_eq_skeleton]; unfold k0_part1_skel
  simp only [semSignalWord, semWaitWord, Prog.lift, Prog.bind_op, Prog.bind_ret, Prog.pure_eq_ret, wp_deviceId]
  iintro ⟨#Hctx, HO, Hb0, Hi0, Hb1, Hi1, Hk⟩
  iapply (wp_signal_nb X K c 0 (dev1_eq c) (O₀ c) (O₁ c) rfl) $$ [HO Hb0 Hi0]
  · isplitr; · iexact Hctx
    isplitl [HO]; · iexact HO
    isplitl [Hb0]; · iexact Hb0
    iexact Hi0
  iintro HO
  iapply (wp_signal_nb X K c 1 (dev2_eq c) (O₁ c) (O₂ c) rfl) $$ [HO Hb1 Hi1]
  · isplitr; · iexact Hctx
    isplitl [HO]; · iexact HO
    isplitl [Hb1]; · iexact Hb1
    iexact Hi1
  iintro HO
  unfold run; rw [wp_ret]; imodintro
  iapply Hk; iexact HO

/-- The second tells the partner across `z`, waits for all three, and fills the first scratch block. -/
theorem part2_ok (v2 : BitVec 32) (v5 : BitVec 32) (v8 : BitVec 32) (v9 : BitVec 32) (v11 : BitVec 32) (v13 : BitVec 32) (Kt : (Σ' (v40 : BitVec 32), BitVec 32) → sProp 𝕄) :
    iprop(ctx X K ∗ owesX c (O₂ c) ∗ dutyTok ER (cell (nb 2 c) kB) 0 2 ∗ outIn c 2 ∗ cred (tallyAt (cell c kB) () 3) ∗ atPos ER (cell c kB) 0 ∅ 0
        ∗ xPts X c ∗ (∃ f, stPts c 0 f)
        ∗ (∀ r, (owesX c (Ol c order) ∗ semVal (cell c kB) 0 ∗ barPay c 0 ∗ barPay c 1 ∗ barPay c 2 ∗ xPts X c ∗ stFull X c 0) -∗ Kt r))
      ⊢ run c (k0_part2 (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10
          c v2 v5 v8 v9 v11 v13 (SemArray.scalar (sig.barrier 0 rfl))) Kt := by
  rw [k0_part2_eq_skeleton]; unfold k0_part2_skel
  simp only [semSignalWord, semWaitWord, Prog.lift, Prog.bind_op, Prog.bind_ret, Prog.pure_eq_ret]
  iintro ⟨#Hctx, HO, Hb2, Hi2, Hc, Hat, Hx, Hs0, Hk⟩
  iapply (wp_signal_nb X K c 2 (dev3_eq c) (O₂ c) (Ol c order) rfl) $$ [HO Hb2 Hi2]
  · isplitr; · iexact Hctx
    isplitl [HO]; · iexact HO
    isplitl [Hb2]; · iexact Hb2
    iexact Hi2
  iintro HO
  iapply (wp_wait_bar X K c) $$ [HO Hc Hat]
  · isplitr; · iexact Hctx
    isplitl [HO]; · iexact HO
    isplitl [Hc]; · iexact Hc
    iexact Hat
  iintro ⟨HO, Hz, Hp0, Hp1, Hp2⟩
  iapply (wp_load_x X c 0 (k0_off1_eq c 0)) $$ Hx; iintro Hx
  iapply (wp_fill X c 0 (pay1_eq _)) $$ Hs0; iintro HF0
  unfold run; rw [wp_ret]; imodintro
  iapply Hk
  isplitl [HO]; · iexact HO
  isplitl [Hz]; · iexact Hz
  isplitl [Hp0]; · iexact Hp0
  isplitl [Hp1]; · iexact Hp1
  isplitl [Hp2]; · iexact Hp2
  isplitl [Hx]; · iexact Hx
  iexact HF0

/-- The third sends the first quarter and fills and sends the second. -/
theorem part3_ok (v2 : BitVec 32) (v5 : BitVec 32) (v8 : BitVec 32) (v9 : BitVec 32) (v13 : BitVec 32) (v41 : BitVec 32) (Kt : (Σ' (v96 : BitVec 32), BitVec 32) → sProp 𝕄) :
    iprop(ctx X K ∗ owesX c (Ol c [0, 1, 2, 3, 4, 5, 6, 7, 8, 9, 10, 11, 12, 13, 14, 15]) ∗ xPts X c ∗ stFull X c 0 ∗ (∃ f, stPts c 1 f) ∗ txReady c 0 ∗ txReady c 1
        ∗ (∀ r, (owesX c (Ol c [2, 3, 4, 5, 6, 7, 8, 9, 10, 11, 12, 13, 14, 15]) ∗ xPts X c ∗ txSent c 0 ∗ txSent c 1) -∗ Kt r))
      ⊢ run c (k0_part3 (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10
          c v2 v5 v8 v9 v13 v41) Kt := by
  rw [k0_part3_eq_skeleton]; unfold k0_part3_skel
  simp only [semSignalWord, semWaitWord, Prog.lift, Prog.bind_op, Prog.bind_ret, Prog.pure_eq_ret]
  iintro ⟨#Hctx, HO, Hx, HF0, Hs1, HT0, HT1, Hk⟩
  iapply (wp_send_x X K c 0 [1, 2, 3, 4, 5, 6, 7, 8, 9, 10, 11, 12, 13, 14, 15] (devX_eq 0 rfl c _ (k0_dev4_eq c)) (off2_row 0 c) rfl rfl) $$ [HO HT0 HF0]
  · isplitr; · iexact Hctx
    isplitl [HT0]; · iexact HT0
    isplitl [HF0]; · iexact HF0
    iexact HO
  iintro ⟨HU0, HO⟩
  iapply (wp_load_x X c 1 (k0_off1_eq c 1)) $$ Hx; iintro Hx
  iapply (wp_fill X c 1 (pay2_eq _)) $$ Hs1; iintro HF1
  iapply (wp_send_x X K c 1 [2, 3, 4, 5, 6, 7, 8, 9, 10, 11, 12, 13, 14, 15] (devX_eq 1 rfl c _ (k0_dev5_eq c)) (off2_row 1 c) rfl rfl) $$ [HO HT1 HF1]
  · isplitr; · iexact Hctx
    isplitl [HT1]; · iexact HT1
    isplitl [HF1]; · iexact HF1
    iexact HO
  iintro ⟨HU1, HO⟩
  unfold run; rw [wp_ret]; imodintro
  iapply Hk
  isplitl [HO]; · iexact HO
  isplitl [Hx]; · iexact Hx
  isplitl [HU0]; · iexact HU0
  iexact HU1

/-- The fourth fills and sends the third and loads the fourth. -/
theorem part4_ok (v2 : BitVec 32) (v5 : BitVec 32) (v8 : BitVec 32) (v9 : BitVec 32) (v13 : BitVec 32) (v41 : BitVec 32) (v96 : BitVec 32) (c256_i32 : BitVec 32) (Kt : (FVec F S128x512 .bf16) → sProp 𝕄) :
    iprop(ctx X K ∗ owesX c (Ol c [2, 3, 4, 5, 6, 7, 8, 9, 10, 11, 12, 13, 14, 15]) ∗ xPts X c ∗ (∃ f, stPts c 2 f) ∗ txReady c 2
        ∗ ((owesX c (Ol c [3, 4, 5, 6, 7, 8, 9, 10, 11, 12, 13, 14, 15]) ∗ xPts X c ∗ txSent c 2) -∗ Kt (k0_pay4 (carried X c 3))))
      ⊢ run c (k0_part4 (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10
          c v2 v5 v8 v9 v13 v41 v96 c256_i32) Kt := by
  rw [k0_part4_eq_skeleton]; unfold k0_part4_skel
  simp only [semSignalWord, semWaitWord, Prog.lift, Prog.bind_op, Prog.bind_ret, Prog.pure_eq_ret]
  iintro ⟨#Hctx, HO, Hx, Hs2, HT2, Hk⟩
  iapply (wp_load_x X c 2 (k0_off1_eq c 2)) $$ Hx; iintro Hx
  iapply (wp_fill X c 2 (pay3_eq _)) $$ Hs2; iintro HF2
  iapply (wp_send_x X K c 2 [3, 4, 5, 6, 7, 8, 9, 10, 11, 12, 13, 14, 15] (devX_eq 2 rfl c _ (k0_dev6_eq c)) (off2_row 2 c) rfl rfl) $$ [HO HT2 HF2]
  · isplitr; · iexact Hctx
    isplitl [HT2]; · iexact HT2
    isplitl [HF2]; · iexact HF2
    iexact HO
  iintro ⟨HU2, HO⟩
  iapply (wp_load_x X c 3 (k0_off1_eq c 3)) $$ Hx; iintro Hx
  unfold run; rw [wp_ret]; imodintro
  iapply Hk
  isplitl [HO]; · iexact HO
  isplitl [Hx]; · iexact Hx
  iexact HU2

/-- The fifth fills and sends the fourth and copies the device's own rows. -/
theorem part5_ok (v2 : BitVec 32) (v5 : BitVec 32) (v8 : BitVec 32) (v9 : BitVec 32) (v13 : BitVec 32) (v41 : BitVec 32) (Kt : (PUnit) → sProp 𝕄) :
    iprop(ctx X K ∗ owesX c (Ol c [3, 4, 5, 6, 7, 8, 9, 10, 11, 12, 13, 14, 15]) ∗ xPts X c ∗ (∃ f, stPts c 3 f) ∗ txReady c 3 ∗ (∃ f, ((c : Thread nD τ).loc cc0_stg1_0) ↦[half c]{fullShare} f)
        ∗ ((owesX c (Ol c [4, 5, 6, 7, 8, 9, 10, 11, 12, 13, 14, 15]) ∗ xPts X c ∗ txSent c 3 ∗ (((c : Thread nD τ).loc cc0_stg1_0) ↦[half c]{fullShare} (G X c))) -∗ Kt ⟨⟩))
      ⊢ run c (k0_part5 (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10
          c v2 v5 v8 v9 v13 v41 (k0_pay4 (carried X c 3))) Kt := by
  rw [k0_part5_eq_skeleton]; unfold k0_part5_skel
  simp only [semSignalWord, semWaitWord, Prog.lift, Prog.bind_op, Prog.bind_ret, Prog.pure_eq_ret]
  iintro ⟨#Hctx, HO, Hx, Hs3, HT3, Ho, Hk⟩
  iapply (wp_fill X c 3 (pay5_eq _)) $$ Hs3; iintro HF3
  iapply (wp_send_x X K c 3 [4, 5, 6, 7, 8, 9, 10, 11, 12, 13, 14, 15] (devX_eq 3 rfl c _ (k0_dev7_eq c)) (off2_row 3 c) rfl rfl) $$ [HO HT3 HF3]
  · isplitr; · iexact Hctx
    isplitl [HT3]; · iexact HT3
    isplitl [HF3]; · iexact HF3
    iexact HO
  iintro ⟨HU3, HO⟩
  iapply (wp_own X c (k0_off3_eq c) (k0_off4_eq c)) $$ [Hx Ho]
  · isplitl [Hx]; · iexact Hx
    iexact Ho
  iintro ⟨Hx, Ho⟩
  unfold run; rw [wp_ret]; imodintro
  iapply Hk
  isplitl [HO]; · iexact HO
  isplitl [Hx]; · iexact Hx
  isplitl [HU3]; · iexact HU3
  iexact Ho

end Cert.KernelIdealProof

end
-- ==== Proof.KernelIdeal.Parts.lean ====
/-
The parts of the kernel's body that wait for rows, pass them on, and wait for the issues to complete, each
executed step by step: what a part takes and what it gives back. A wait gives the cell back at zero.
-/
module

public import proofs.«01_k».proof.Proof.KernelIdeal.Steps

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → (cc0_stg0_0 : Ref sig .tc).ty.Contents (Elt F)) (K : Dev nD × CI → ℕ) (c : Dev nD)

/-- The rows copy `t` passes on, at the share it borrows, holding their final contents. -/
abbrev srcPts (t : Fin 16) : sProp 𝕄 := chPts c (row t c) (shareOf t) (G X c)

omit [FloatOps F] in
/-- A quarter received from across `x` is the source of the two copies that pass it on, half each. -/
theorem pass_x (i : Fin 4) : recvPay (F := F) X c (tX i) ⊢ iprop(srcPts X c (tY i) ∗ srcPts X c (tZ i)) := by
  have hy : shareOf (tY i) = fullShare.left := (by decide : ∀ i : Fin 4, shareOf (tY i) = fullShare.left) i
  have hz : shareOf (tZ i) = fullShare.right := (by decide : ∀ i : Fin 4, shareOf (tZ i) = fullShare.right) i
  unfold srcPts recvPay chPts
  rw [hy, hz, (row_fwd_x i c).1, (row_fwd_x i c).2]
  exact (pointsTo_share (PosShare.mem_left_op_right fullShare)).1
omit [FloatOps F] in
theorem pass_12 : recvPay (F := F) X c 5 ⊢ srcPts X c 12 := by
  unfold srcPts recvPay; rw [row_fwd_12]; exact BI.Entails.refl _
omit [FloatOps F] in
theorem pass_13 : recvPay (F := F) X c 7 ⊢ srcPts X c 13 := by
  unfold srcPts recvPay; rw [row_fwd_13]; exact BI.Entails.refl _
omit [FloatOps F] in
theorem pass_14 : recvPay (F := F) X c 8 ⊢ srcPts X c 14 := by
  unfold srcPts recvPay; rw [row_fwd_14]; exact BI.Entails.refl _
omit [FloatOps F] in
theorem pass_15 : recvPay (F := F) X c 10 ⊢ srcPts X c 15 := by
  unfold srcPts recvPay; rw [row_fwd_15]; exact BI.Entails.refl _

/-! ## The parts that pass rows on -/

theorem part6_ok (v2 : BitVec 32) (v5 : BitVec 32) (v8 : BitVec 32) (v9 : BitVec 32) (v10 : BitVec 32) (v11 : BitVec 32) (v13 : BitVec 32) (v40 : BitVec 32) (Kt : (Σ' (v195 : BitVec 32), BitVec 32) → sProp 𝕄) :
    iprop(ctx X K ∗ owesX c (Ol c [4, 5, 6, 7, 8, 9, 10, 11, 12, 13, 14, 15]) ∗ rxReady c 0 ∗ txReady c 4 ∗ txReady c 5
        ∗ (∀ r, (owesX c (Ol c [6, 7, 8, 9, 10, 11, 12, 13, 14, 15]) ∗ semVal (cell c (kR 0)) 0 ∗ txSent c 4 ∗ txSent c 5) -∗ Kt r))
      ⊢ run c (k0_part6 (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10
          c v2 v5 v8 v9 v10 v11 v13 v40) Kt := by
  rw [k0_part6_eq_skeleton]; unfold k0_part6_skel
  simp only [Prog.lift, Prog.bind_op, Prog.bind_ret, Prog.pure_eq_ret]
  iintro ⟨#Hctx, HO, HR0, HT4, HT5, Hk⟩
  iapply (wp_wait_recv X K c 0 [4, 5, 6, 7, 8, 9, 10, 11, 12, 13, 14, 15] (by decide) rfl) $$ [HO HR0]
  · isplitr; · iexact Hctx
    isplitl [HR0]; · iexact HR0
    iexact HO
  iintro ⟨HO, Hz0, HP0⟩
  ihave H := (show recvPay X c 0 ⊢ iprop(srcPts X c 4 ∗ srcPts X c 5) from pass_x X c 0) $$ HP0; icases H with ⟨HS4, HS5⟩
  iapply (wp_send_out X K c 4 (by decide) [5, 6, 7, 8, 9, 10, 11, 12, 13, 14, 15] (devY_eq 4 rfl c _ (k0_dev8_eq c)) (off5_row 0 c).1 rfl rfl) $$ [HO HT4 HS4]
  · isplitr; · iexact Hctx
    isplitl [HT4]; · iexact HT4
    isplitl [HS4]; · iexact HS4
    iexact HO
  iintro ⟨HU4, HO⟩
  iapply (wp_send_out X K c 5 (by decide) [6, 7, 8, 9, 10, 11, 12, 13, 14, 15] (devZ_eq 5 rfl c _ (k0_dev9_eq c)) (off5_row 0 c).2 rfl rfl) $$ [HO HT5 HS5]
  · isplitr; · iexact Hctx
    isplitl [HT5]; · iexact HT5
    isplitl [HS5]; · iexact HS5
    iexact HO
  iintro ⟨HU5, HO⟩
  unfold run; rw [wp_ret]; imodintro
  iapply Hk
  isplitl [HO]; · iexact HO
  isplitl [Hz0]; · iexact Hz0
  isplitl [HU4]; · iexact HU4
  iexact HU5

theorem part7_ok (v2 : BitVec 32) (v5 : BitVec 32) (v8 : BitVec 32) (v10 : BitVec 32) (v11 : BitVec 32) (v13 : BitVec 32) (v40 : BitVec 32) (v195 : BitVec 32) (c0_i32_131 : BitVec 32) (Kt : (PUnit) → sProp 𝕄) :
    iprop(ctx X K ∗ owesX c (Ol c [6, 7, 8, 9, 10, 11, 12, 13, 14, 15]) ∗ rxReady c 1 ∗ txReady c 6
        ∗ ((owesX c (Ol c [7, 8, 9, 10, 11, 12, 13, 14, 15]) ∗ semVal (cell c (kR 1)) 0 ∗ srcPts X c 7 ∗ txSent c 6) -∗ Kt ⟨⟩))
      ⊢ run c (k0_part7 (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10
          c v2 v5 v8 v10 v11 v13 v40 v195 c0_i32_131) Kt := by
  rw [k0_part7_eq_skeleton]; unfold k0_part7_skel
  simp only [Prog.lift, Prog.bind_op, Prog.bind_ret, Prog.pure_eq_ret]
  iintro ⟨#Hctx, HO, HR1, HT6, Hk⟩
  iapply (wp_wait_recv X K c 1 [6, 7, 8, 9, 10, 11, 12, 13, 14, 15] (by decide) rfl) $$ [HO HR1]
  · isplitr; · iexact Hctx
    isplitl [HR1]; · iexact HR1
    iexact HO
  iintro ⟨HO, Hz1, HP1⟩
  ihave H := (show recvPay X c 1 ⊢ iprop(srcPts X c 6 ∗ srcPts X c 7) from pass_x X c 1) $$ HP1; icases H with ⟨HS6, HS7⟩
  iapply (wp_send_out X K c 6 (by decide) [7, 8, 9, 10, 11, 12, 13, 14, 15] (devY_eq 6 rfl c _ (k0_dev10_eq c)) (off5_row 1 c).1 rfl rfl) $$ [HO HT6 HS6]
  · isplitr; · iexact Hctx
    isplitl [HT6]; · iexact HT6
    isplitl [HS6]; · iexact HS6
    iexact HO
  iintro ⟨HU6, HO⟩
  unfold run; rw [wp_ret]; imodintro
  iapply Hk
  isplitl [HO]; · iexact HO
  isplitl [Hz1]; · iexact Hz1
  isplitl [HS7]; · iexact HS7
  iexact HU6

theorem part8_ok (v2 : BitVec 32) (v5 : BitVec 32) (v8 : BitVec 32) (v9 : BitVec 32) (v10 : BitVec 32) (v13 : BitVec 32) (v40 : BitVec 32) (Kt : (BitVec 32) → sProp 𝕄) :
    iprop(ctx X K ∗ owesX c (Ol c [7, 8, 9, 10, 11, 12, 13, 14, 15]) ∗ rxReady c 2 ∗ txReady c 7 ∗ txReady c 8 ∗ srcPts X c 7
        ∗ (∀ r, (owesX c (Ol c [9, 10, 11, 12, 13, 14, 15]) ∗ semVal (cell c (kR 2)) 0 ∗ srcPts X c 9 ∗ txSent c 7 ∗ txSent c 8) -∗ Kt r))
      ⊢ run c (k0_part8 (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10
          c v2 v5 v8 v9 v10 v13 v40) Kt := by
  rw [k0_part8_eq_skeleton]; unfold k0_part8_skel
  simp only [Prog.lift, Prog.bind_op, Prog.bind_ret, Prog.pure_eq_ret]
  iintro ⟨#Hctx, HO, HR2, HT7, HT8, HS7, Hk⟩
  iapply (wp_send_out X K c 7 (by decide) [8, 9, 10, 11, 12, 13, 14, 15] (devZ_eq 7 rfl c _ (k0_dev11_eq c)) (off5_row 1 c).2 rfl rfl) $$ [HO HT7 HS7]
  · isplitr; · iexact Hctx
    isplitl [HT7]; · iexact HT7
    isplitl [HS7]; · iexact HS7
    iexact HO
  iintro ⟨HU7, HO⟩
  iapply (wp_wait_recv X K c 2 [8, 9, 10, 11, 12, 13, 14, 15] (by decide) rfl) $$ [HO HR2]
  · isplitr; · iexact Hctx
    isplitl [HR2]; · iexact HR2
    iexact HO
  iintro ⟨HO, Hz2, HP2⟩
  ihave H := (show recvPay X c 2 ⊢ iprop(srcPts X c 8 ∗ srcPts X c 9) from pass_x X c 2) $$ HP2; icases H with ⟨HS8, HS9⟩
  iapply (wp_send_out X K c 8 (by decide) [9, 10, 11, 12, 13, 14, 15] (devY_eq 8 rfl c _ (k0_dev12_eq c)) (off5_row 2 c).1 rfl rfl) $$ [HO HT8 HS8]
  · isplitr; · iexact Hctx
    isplitl [HT8]; · iexact HT8
    isplitl [HS8]; · iexact HS8
    iexact HO
  iintro ⟨HU8, HO⟩
  unfold run; rw [wp_ret]; imodintro
  iapply Hk
  isplitl [HO]; · iexact HO
  isplitl [Hz2]; · iexact Hz2
  isplitl [HS9]; · iexact HS9
  isplitl [HU7]; · iexact HU7
  iexact HU8

theorem part9_ok (v2 : BitVec 32) (v5 : BitVec 32) (v8 : BitVec 32) (v9 : BitVec 32) (v10 : BitVec 32) (v11 : BitVec 32) (v13 : BitVec 32) (v40 : BitVec 32) (v262 : BitVec 32) (Kt : (PUnit) → sProp 𝕄) :
    iprop(ctx X K ∗ owesX c (Ol c [9, 10, 11, 12, 13, 14, 15]) ∗ rxReady c 3 ∗ txReady c 9 ∗ txReady c 10 ∗ srcPts X c 9
        ∗ ((owesX c (Ol c [11, 12, 13, 14, 15]) ∗ semVal (cell c (kR 3)) 0 ∗ srcPts X c 11 ∗ txSent c 9 ∗ txSent c 10) -∗ Kt ⟨⟩))
      ⊢ run c (k0_part9 (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10
          c v2 v5 v8 v9 v10 v11 v13 v40 v262) Kt := by
  rw [k0_part9_eq_skeleton]; unfold k0_part9_skel
  simp only [Prog.lift, Prog.bind_op, Prog.bind_ret, Prog.pure_eq_ret]
  iintro ⟨#Hctx, HO, HR3, HT9, HT10, HS9, Hk⟩
  iapply (wp_send_out X K c 9 (by decide) [10, 11, 12, 13, 14, 15] (devZ_eq 9 rfl c _ (k0_dev13_eq c)) (off5_row 2 c).2 rfl rfl) $$ [HO HT9 HS9]
  · isplitr; · iexact Hctx
    isplitl [HT9]; · iexact HT9
    isplitl [HS9]; · iexact HS9
    iexact HO
  iintro ⟨HU9, HO⟩
  iapply (wp_wait_recv X K c 3 [10, 11, 12, 13, 14, 15] (by decide) rfl) $$ [HO HR3]
  · isplitr; · iexact Hctx
    isplitl [HR3]; · iexact HR3
    iexact HO
  iintro ⟨HO, Hz3, HP3⟩
  ihave H := (show recvPay X c 3 ⊢ iprop(srcPts X c 10 ∗ srcPts X c 11) from pass_x X c 3) $$ HP3; icases H with ⟨HS10, HS11⟩
  iapply (wp_send_out X K c 10 (by decide) [11, 12, 13, 14, 15] (devY_eq 10 rfl c _ (k0_dev14_eq c)) (off5_row 3 c).1 rfl rfl) $$ [HO HT10 HS10]
  · isplitr; · iexact Hctx
    isplitl [HT10]; · iexact HT10
    isplitl [HS10]; · iexact HS10
    iexact HO
  iintro ⟨HU10, HO⟩
  unfold run; rw [wp_ret]; imodintro
  iapply Hk
  isplitl [HO]; · iexact HO
  isplitl [Hz3]; · iexact Hz3
  isplitl [HS11]; · iexact HS11
  isplitl [HU9]; · iexact HU9
  iexact HU10

theorem part10_ok (v2 : BitVec 32) (v5 : BitVec 32) (v8 : BitVec 32) (v10 : BitVec 32) (v11 : BitVec 32) (v19 : BitVec 32) (v40 : BitVec 32) (Kt : (PUnit) → sProp 𝕄) :
    iprop(ctx X K ∗ owesX c (Ol c [11, 12, 13, 14, 15]) ∗ rxReady c 5 ∗ txReady c 11 ∗ srcPts X c 11
        ∗ ((owesX c (Ol c [12, 13, 14, 15]) ∗ semVal (cell c (kR 5)) 0 ∗ srcPts X c 12 ∗ txSent c 11) -∗ Kt ⟨⟩))
      ⊢ run c (k0_part10 (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10
          c v2 v5 v8 v10 v11 v19 v40) Kt := by
  rw [k0_part10_eq_skeleton]; unfold k0_part10_skel
  simp only [Prog.lift, Prog.bind_op, Prog.bind_ret, Prog.pure_eq_ret]
  iintro ⟨#Hctx, HO, HR5, HT11, HS11, Hk⟩
  iapply (wp_send_out X K c 11 (by decide) [12, 13, 14, 15] (devZ_eq 11 rfl c _ (k0_dev15_eq c)) (off5_row 3 c).2 rfl rfl) $$ [HO HT11 HS11]
  · isplitr; · iexact Hctx
    isplitl [HT11]; · iexact HT11
    isplitl [HS11]; · iexact HS11
    iexact HO
  iintro ⟨HU11, HO⟩
  iapply (wp_wait_recv X K c 5 [12, 13, 14, 15] (by decide) rfl) $$ [HO HR5]
  · isplitr; · iexact Hctx
    isplitl [HR5]; · iexact HR5
    iexact HO
  iintro ⟨HO, Hz5, HP5⟩
  ihave HS12 := (pass_12 X c) $$ HP5
  unfold run; rw [wp_ret]; imodintro
  iapply Hk
  isplitl [HO]; · iexact HO
  isplitl [Hz5]; · iexact Hz5
  isplitl [HS12]; · iexact HS12
  iexact HU11

theorem part11_ok (v2 : BitVec 32) (v5 : BitVec 32) (v8 : BitVec 32) (v10 : BitVec 32) (v11 : BitVec 32) (v19 : BitVec 32) (v40 : BitVec 32) (Kt : (Σ' (v360 : BitVec 32), BitVec 32) → sProp 𝕄) :
    iprop(ctx X K ∗ owesX c (Ol c [12, 13, 14, 15]) ∗ rxReady c 4 ∗ rxReady c 7 ∗ txReady c 12 ∗ srcPts X c 12
        ∗ (∀ r, (owesX c (Ol c [13, 14, 15]) ∗ semVal (cell c (kR 4)) 0 ∗ semVal (cell c (kR 7)) 0 ∗ recvPay X c 4 ∗ srcPts X c 13 ∗ txSent c 12) -∗ Kt r))
      ⊢ run c (k0_part11 (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10
          c v2 v5 v8 v10 v11 v19 v40) Kt := by
  rw [k0_part11_eq_skeleton]; unfold k0_part11_skel
  simp only [Prog.lift, Prog.bind_op, Prog.bind_ret, Prog.pure_eq_ret]
  iintro ⟨#Hctx, HO, HR4, HR7, HT12, HS12, Hk⟩
  iapply (wp_send_out X K c 12 (by decide) [13, 14, 15] (devY_eq 12 rfl c _ (k0_dev16_eq c)) (off6_row 0 c) rfl rfl) $$ [HO HT12 HS12]
  · isplitr; · iexact Hctx
    isplitl [HT12]; · iexact HT12
    isplitl [HS12]; · iexact HS12
    iexact HO
  iintro ⟨HU12, HO⟩
  iapply (wp_wait_recv X K c 4 [13, 14, 15] (by decide) rfl) $$ [HO HR4]
  · isplitr; · iexact Hctx
    isplitl [HR4]; · iexact HR4
    iexact HO
  iintro ⟨HO, Hz4, HP4⟩
  iapply (wp_wait_recv X K c 7 [13, 14, 15] (by decide) rfl) $$ [HO HR7]
  · isplitr; · iexact Hctx
    isplitl [HR7]; · iexact HR7
    iexact HO
  iintro ⟨HO, Hz7, HP7⟩
  ihave HS13 := (pass_13 X c) $$ HP7
  unfold run; rw [wp_ret]; imodintro
  iapply Hk
  isplitl [HO]; · iexact HO
  isplitl [Hz4]; · iexact Hz4
  isplitl [Hz7]; · iexact Hz7
  isplitl [HP4]; · iexact HP4
  isplitl [HS13]; · iexact HS13
  iexact HU12

theorem part12_ok (v2 : BitVec 32) (v5 : BitVec 32) (v8 : BitVec 32) (v10 : BitVec 32) (v11 : BitVec 32) (v360 : BitVec 32) (v361 : BitVec 32) (Kt : (PUnit) → sProp 𝕄) :
    iprop(ctx X K ∗ owesX c (Ol c [13, 14, 15]) ∗ rxReady c 6 ∗ rxReady c 9 ∗ txReady c 13 ∗ srcPts X c 13
        ∗ ((owesX c (Ol c [14, 15]) ∗ semVal (cell c (kR 6)) 0 ∗ semVal (cell c (kR 9)) 0 ∗ recvPay X c 6 ∗ recvPay X c 9 ∗ txSent c 13) -∗ Kt ⟨⟩))
      ⊢ run c (k0_part12 (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10
          c v2 v5 v8 v10 v11 v360 v361) Kt := by
  rw [k0_part12_eq_skeleton]; unfold k0_part12_skel
  simp only [Prog.lift, Prog.bind_op, Prog.bind_ret, Prog.pure_eq_ret]
  iintro ⟨#Hctx, HO, HR6, HR9, HT13, HS13, Hk⟩
  iapply (wp_send_out X K c 13 (by decide) [14, 15] (devY_eq 13 rfl c _ (k0_dev17_eq c)) (off6_row 1 c) rfl rfl) $$ [HO HT13 HS13]
  · isplitr; · iexact Hctx
    isplitl [HT13]; · iexact HT13
    isplitl [HS13]; · iexact HS13
    iexact HO
  iintro ⟨HU13, HO⟩
  iapply (wp_wait_recv X K c 6 [14, 15] (by decide) rfl) $$ [HO HR6]
  · isplitr; · iexact Hctx
    isplitl [HR6]; · iexact HR6
    iexact HO
  iintro ⟨HO, Hz6, HP6⟩
  iapply (wp_wait_recv X K c 9 [14, 15] (by decide) rfl) $$ [HO HR9]
  · isplitr; · iexact Hctx
    isplitl [HR9]; · iexact HR9
    iexact HO
  iintro ⟨HO, Hz9, HP9⟩
  unfold run; rw [wp_ret]; imodintro
  iapply Hk
  isplitl [HO]; · iexact HO
  isplitl [Hz6]; · iexact Hz6
  isplitl [Hz9]; · iexact Hz9
  isplitl [HP6]; · iexact HP6
  isplitl [HP9]; · iexact HP9
  iexact HU13

theorem part13_ok (v2 : BitVec 32) (v5 : BitVec 32) (v10 : BitVec 32) (v11 : BitVec 32) (v16 : BitVec 32) (v40 : BitVec 32) (Kt : (Σ' (v425 : BitVec 32), BitVec 32) → sProp 𝕄) :
    iprop(ctx X K ∗ owesX c (Ol c [14, 15]) ∗ rxReady c 8 ∗ rxReady c 11 ∗ txReady c 14
        ∗ (∀ r, (owesX c (Ol c [15]) ∗ semVal (cell c (kR 8)) 0 ∗ semVal (cell c (kR 11)) 0 ∗ recvPay X c 11 ∗ txSent c 14) -∗ Kt r))
      ⊢ run c (k0_part13 (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10
          c v2 v5 v10 v11 v16 v40) Kt := by
  rw [k0_part13_eq_skeleton]; unfold k0_part13_skel
  simp only [Prog.lift, Prog.bind_op, Prog.bind_ret, Prog.pure_eq_ret]
  iintro ⟨#Hctx, HO, HR8, HR11, HT14, Hk⟩
  iapply (wp_wait_recv X K c 8 [14, 15] (by decide) rfl) $$ [HO HR8]
  · isplitr; · iexact Hctx
    isplitl [HR8]; · iexact HR8
    iexact HO
  iintro ⟨HO, Hz8, HP8⟩
  ihave HS14 := (pass_14 X c) $$ HP8
  iapply (wp_send_out X K c 14 (by decide) [15] (devZ_eq 14 rfl c _ (k0_dev18_eq c)) (off7_row 0 c) rfl rfl) $$ [HO HT14 HS14]
  · isplitr; · iexact Hctx
    isplitl [HT14]; · iexact HT14
    isplitl [HS14]; · iexact HS14
    iexact HO
  iintro ⟨HU14, HO⟩
  iapply (wp_wait_recv X K c 11 [15] (by decide) rfl) $$ [HO HR11]
  · isplitr; · iexact Hctx
    isplitl [HR11]; · iexact HR11
    iexact HO
  iintro ⟨HO, Hz11, HP11⟩
  unfold run; rw [wp_ret]; imodintro
  iapply Hk
  isplitl [HO]; · iexact HO
  isplitl [Hz8]; · iexact Hz8
  isplitl [Hz11]; · iexact Hz11
  isplitl [HP11]; · iexact HP11
  iexact HU14

theorem part14_ok (v2 : BitVec 32) (v5 : BitVec 32) (v8 : BitVec 32) (v10 : BitVec 32) (v11 : BitVec 32) (v16 : BitVec 32) (v40 : BitVec 32) (v425 : BitVec 32) (v426 : BitVec 32) (Kt : (BitVec 32) → sProp 𝕄) :
    iprop(ctx X K ∗ owesX c (Ol c [15]) ∗ rxReady c 10 ∗ rxReady c 12 ∗ txReady c 15
        ∗ (∀ r, (owesX c (Ol c []) ∗ semVal (cell c (kR 10)) 0 ∗ semVal (cell c (kR 12)) 0 ∗ recvPay X c 12 ∗ txSent c 15) -∗ Kt r))
      ⊢ run c (k0_part14 (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10
          c v2 v5 v8 v10 v11 v16 v40 v425 v426) Kt := by
  rw [k0_part14_eq_skeleton]; unfold k0_part14_skel
  simp only [Prog.lift, Prog.bind_op, Prog.bind_ret, Prog.pure_eq_ret]
  iintro ⟨#Hctx, HO, HR10, HR12, HT15, Hk⟩
  iapply (wp_wait_recv X K c 10 [15] (by decide) rfl) $$ [HO HR10]
  · isplitr; · iexact Hctx
    isplitl [HR10]; · iexact HR10
    iexact HO
  iintro ⟨HO, Hz10, HP10⟩
  ihave HS15 := (pass_15 X c) $$ HP10
  iapply (wp_send_out X K c 15 (by decide) [] (devZ_eq 15 rfl c _ (k0_dev19_eq c)) (off7_row 1 c) rfl rfl) $$ [HO HT15 HS15]
  · isplitr; · iexact Hctx
    isplitl [HT15]; · iexact HT15
    isplitl [HS15]; · iexact HS15
    iexact HO
  iintro ⟨HU15, HO⟩
  iapply (wp_wait_recv X K c 12 [] (by decide) rfl) $$ [HO HR12]
  · isplitr; · iexact Hctx
    isplitl [HR12]; · iexact HR12
    iexact HO
  iintro ⟨HO, Hz12, HP12⟩
  unfold run; rw [wp_ret]; imodintro
  iapply Hk
  isplitl [HO]; · iexact HO
  isplitl [Hz10]; · iexact Hz10
  isplitl [Hz12]; · iexact Hz12
  isplitl [HP12]; · iexact HP12
  iexact HU15

theorem part15_ok (v2 : BitVec 32) (v5 : BitVec 32) (v8 : BitVec 32) (v10 : BitVec 32) (v11 : BitVec 32) (v459 : BitVec 32) (Kt : (PUnit) → sProp 𝕄) :
    iprop(ctx X K ∗ owesX c (Ol c []) ∗ rxReady c 14 ∗ rxReady c 13 ∗ rxReady c 15
        ∗ ((owesX c (Ol c []) ∗ semVal (cell c (kR 14)) 0 ∗ semVal (cell c (kR 13)) 0 ∗ semVal (cell c (kR 15)) 0 ∗ recvPay X c 14 ∗ recvPay X c 13 ∗ recvPay X c 15) -∗ Kt ⟨⟩))
      ⊢ run c (k0_part15 (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10
          c v2 v5 v8 v10 v11 v459) Kt := by
  rw [k0_part15_eq_skeleton]; unfold k0_part15_skel
  simp only [Prog.lift, Prog.bind_op, Prog.bind_ret, Prog.pure_eq_ret]
  iintro ⟨#Hctx, HO, HR14, HR13, HR15, Hk⟩
  iapply (wp_wait_recv X K c 14 [] (by decide) rfl) $$ [HO HR14]
  · isplitr; · iexact Hctx
    isplitl [HR14]; · iexact HR14
    iexact HO
  iintro ⟨HO, Hz14, HP14⟩
  iapply (wp_wait_recv X K c 13 [] (by decide) rfl) $$ [HO HR13]
  · isplitr; · iexact Hctx
    isplitl [HR13]; · iexact HR13
    iexact HO
  iintro ⟨HO, Hz13, HP13⟩
  iapply (wp_wait_recv X K c 15 [] (by decide) rfl) $$ [HO HR15]
  · isplitr; · iexact Hctx
    isplitl [HR15]; · iexact HR15
    iexact HO
  iintro ⟨HO, Hz15, HP15⟩
  unfold run; rw [wp_ret]; imodintro
  iapply Hk
  isplitl [HO]; · iexact HO
  isplitl [Hz14]; · iexact Hz14
  isplitl [Hz13]; · iexact Hz13
  isplitl [Hz15]; · iexact Hz15
  isplitl [HP14]; · iexact HP14
  isplitl [HP13]; · iexact HP13
  iexact HP15

theorem part16_ok (Kt : (PUnit) → sProp 𝕄) :
    iprop(ctx X K ∗ owesX c (Ol c []) ∗ txSent c 0 ∗ txSent c 1 ∗ txSent c 2 ∗ txSent c 3 ∗ txSent c 4
        ∗ ((owesX c (Ol c []) ∗ semVal (cell c (kS 0)) 0 ∗ semVal (cell c (kS 1)) 0 ∗ semVal (cell c (kS 2)) 0 ∗ semVal (cell c (kS 3)) 0 ∗ semVal (cell c (kS 4)) 0 ∗ sendPay X c 0 ∗ sendPay X c 1 ∗ sendPay X c 2 ∗ sendPay X c 3 ∗ sendPay X c 4) -∗ Kt ⟨⟩))
      ⊢ run c (k0_part16 (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10
          c) Kt := by
  rw [k0_part16_eq_skeleton]; unfold k0_part16_skel
  simp only [Prog.lift, Prog.bind_op, Prog.bind_ret, Prog.pure_eq_ret]
  iintro ⟨#Hctx, HO, HU0, HU1, HU2, HU3, HU4, Hk⟩
  iapply (wp_wait_send_x X K c 0 rfl) $$ [HO HU0]
  · isplitr; · iexact Hctx
    isplitl [HU0]; · iexact HU0
    iexact HO
  iintro ⟨HO, Hy0, HB0⟩
  iapply (wp_wait_send_x X K c 1 rfl) $$ [HO HU1]
  · isplitr; · iexact Hctx
    isplitl [HU1]; · iexact HU1
    iexact HO
  iintro ⟨HO, Hy1, HB1⟩
  iapply (wp_wait_send_x X K c 2 rfl) $$ [HO HU2]
  · isplitr; · iexact Hctx
    isplitl [HU2]; · iexact HU2
    iexact HO
  iintro ⟨HO, Hy2, HB2⟩
  iapply (wp_wait_send_x X K c 3 rfl) $$ [HO HU3]
  · isplitr; · iexact Hctx
    isplitl [HU3]; · iexact HU3
    iexact HO
  iintro ⟨HO, Hy3, HB3⟩
  iapply (wp_wait_send X K c 4 rfl) $$ [HO HU4]
  · isplitr; · iexact Hctx
    isplitl [HU4]; · iexact HU4
    iexact HO
  iintro ⟨HO, Hy4, HB4⟩
  unfold run; rw [wp_ret]; imodintro
  iapply Hk
  isplitl [HO]; · iexact HO
  isplitl [Hy0]; · iexact Hy0
  isplitl [Hy1]; · iexact Hy1
  isplitl [Hy2]; · iexact Hy2
  isplitl [Hy3]; · iexact Hy3
  isplitl [Hy4]; · iexact Hy4
  isplitl [HB0]; · iexact HB0
  isplitl [HB1]; · iexact HB1
  isplitl [HB2]; · iexact HB2
  isplitl [HB3]; · iexact HB3
  iexact HB4

theorem part17_ok (Kt : (PUnit) → sProp 𝕄) :
    iprop(ctx X K ∗ owesX c (Ol c []) ∗ txSent c 6 ∗ txSent c 8 ∗ txSent c 10 ∗ txSent c 5 ∗ txSent c 7 ∗ txSent c 9
        ∗ ((owesX c (Ol c []) ∗ semVal (cell c (kS 6)) 0 ∗ semVal (cell c (kS 8)) 0 ∗ semVal (cell c (kS 10)) 0 ∗ semVal (cell c (kS 5)) 0 ∗ semVal (cell c (kS 7)) 0 ∗ semVal (cell c (kS 9)) 0 ∗ sendPay X c 6 ∗ sendPay X c 8 ∗ sendPay X c 10 ∗ sendPay X c 5 ∗ sendPay X c 7 ∗ sendPay X c 9) -∗ Kt ⟨⟩))
      ⊢ run c (k0_part17 (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10
          c) Kt := by
  rw [k0_part17_eq_skeleton]; unfold k0_part17_skel
  simp only [Prog.lift, Prog.bind_op, Prog.bind_ret, Prog.pure_eq_ret]
  iintro ⟨#Hctx, HO, HU6, HU8, HU10, HU5, HU7, HU9, Hk⟩
  iapply (wp_wait_send X K c 6 rfl) $$ [HO HU6]
  · isplitr; · iexact Hctx
    isplitl [HU6]; · iexact HU6
    iexact HO
  iintro ⟨HO, Hy6, HB6⟩
  iapply (wp_wait_send X K c 8 rfl) $$ [HO HU8]
  · isplitr; · iexact Hctx
    isplitl [HU8]; · iexact HU8
    iexact HO
  iintro ⟨HO, Hy8, HB8⟩
  iapply (wp_wait_send X K c 10 rfl) $$ [HO HU10]
  · isplitr; · iexact Hctx
    isplitl [HU10]; · iexact HU10
    iexact HO
  iintro ⟨HO, Hy10, HB10⟩
  iapply (wp_wait_send X K c 5 rfl) $$ [HO HU5]
  · isplitr; · iexact Hctx
    isplitl [HU5]; · iexact HU5
    iexact HO
  iintro ⟨HO, Hy5, HB5⟩
  iapply (wp_wait_send X K c 7 rfl) $$ [HO HU7]
  · isplitr; · iexact Hctx
    isplitl [HU7]; · iexact HU7
    iexact HO
  iintro ⟨HO, Hy7, HB7⟩
  iapply (wp_wait_send X K c 9 rfl) $$ [HO HU9]
  · isplitr; · iexact Hctx
    isplitl [HU9]; · iexact HU9
    iexact HO
  iintro ⟨HO, Hy9, HB9⟩
  unfold run; rw [wp_ret]; imodintro
  iapply Hk
  isplitl [HO]; · iexact HO
  isplitl [Hy6]; · iexact Hy6
  isplitl [Hy8]; · iexact Hy8
  isplitl [Hy10]; · iexact Hy10
  isplitl [Hy5]; · iexact Hy5
  isplitl [Hy7]; · iexact Hy7
  isplitl [Hy9]; · iexact Hy9
  isplitl [HB6]; · iexact HB6
  isplitl [HB8]; · iexact HB8
  isplitl [HB10]; · iexact HB10
  isplitl [HB5]; · iexact HB5
  isplitl [HB7]; · iexact HB7
  iexact HB9

end Cert.KernelIdealProof

end
-- ==== Proof.KernelIdeal.Body.lean ====
/-
The whole body of the kernel on one device: what it starts from, what it ends with, and its execution, part after
part. At the end every chunk of the result the device received is in its hands again, with its own rows, and makes
the whole result.
-/
module

public import proofs.«01_k».proof.Proof.KernelIdeal.Front
public import proofs.«01_k».proof.Proof.KernelIdeal.Parts
public import Idealize.ShloMosaic.Lib.Ring

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → (cc0_stg0_0 : Ref sig .tc).ty.Contents (Elt F)) (K : Dev nD × CI → ℕ) (c : Dev nD)

/-! ## Lists of copies -/

omit [FloatOps F] in
theorem list16 (Ψ : Fin 16 → sProp 𝕄) : bigSep Finset.univ Ψ = iprop(Ψ 0 ∗ Ψ 1 ∗ Ψ 2 ∗ Ψ 3 ∗ Ψ 4 ∗ Ψ 5 ∗ Ψ 6 ∗ Ψ 7 ∗ Ψ 8 ∗ Ψ 9 ∗ Ψ 10 ∗ Ψ 11 ∗ Ψ 12 ∗ Ψ 13 ∗ Ψ 14 ∗ Ψ 15) :=
  bigSep_univ_eq_bigSepL order (by decide) (by decide) Ψ
omit [FloatOps F] in
theorem list4 (Ψ : Fin 4 → sProp 𝕄) : bigSep Finset.univ Ψ = iprop(Ψ 0 ∗ Ψ 1 ∗ Ψ 2 ∗ Ψ 3) :=
  bigSep_univ_eq_bigSepL [0, 1, 2, 3] (by decide) (by decide) Ψ
omit [FloatOps F] in
theorem list3 (Ψ : Fin 3 → sProp 𝕄) : bigSep Finset.univ Ψ = iprop(Ψ 0 ∗ Ψ 1 ∗ Ψ 2) :=
  bigSep_univ_eq_bigSepL [0, 1, 2] (by decide) (by decide) Ψ

/-- The copies along axis `a`. -/
abbrev along (a : Fin 3) : Finset (Fin 16) := Finset.univ.filter fun t : Fin 16 => axisOf t = a

omit [FloatOps F] in
/-- All copies, axis by axis. -/
theorem by_axis (Ψ : Fin 16 → sProp 𝕄) : bigSep Finset.univ Ψ = iprop(bigSep (along 0) Ψ ∗ bigSep (along 1) Ψ ∗ bigSep (along 2) Ψ) := by
  have e : (Finset.univ : Finset (Fin 16)) = along 0 ∪ (along 1 ∪ along 2) := by decide
  have e1 : bigSep (along 1 ∪ along 2) Ψ = iprop(bigSep (along 1) Ψ ∗ bigSep (along 2) Ψ) := bigSep_union (by decide)
  have e0 : bigSep (along 0 ∪ (along 1 ∪ along 2)) Ψ = iprop(bigSep (along 0) Ψ ∗ bigSep (along 1 ∪ along 2) Ψ) := bigSep_union (by decide)
  rw [← e1, ← e0, ← e]

/-! ## The result and the scratch, cut and joined -/

omit [FloatOps F] in
theorem out_cut (f : Buf (Elt F) ((c : Thread nD τ).loc cc0_stg1_0)) :
    (((c : Thread nD τ).loc cc0_stg1_0) ↦{fullShare} f : sProp 𝕄)
      = iprop((bigSep Finset.univ fun t : Fin 16 => chPts c (rowIn t c) fullShare f) ∗ (((c : Thread nD τ).loc cc0_stg1_0) ↦[half c]{fullShare} f)) := by
  have e := pointsTo_biUnion (Ix := Unit) (Name := ℕ) (U := UU) (Lvl := ℕ) (ℓ := (c : Thread nD τ).loc cc0_stg1_0) (q := fullShare) (f := f) (Finset.univ : Finset (Fin 16))
    (fun t => chunk (rowIn t c)) (fun t _ t' _ h => chunk_disjoint c t t' h)
  have u : (((c : Thread nD τ).loc cc0_stg1_0) ↦[(Finset.univ.biUnion fun t : Fin 16 => chunk (rowIn t c)) ∪ half c]{fullShare} f : sProp 𝕄)
      = iprop((((c : Thread nD τ).loc cc0_stg1_0) ↦[Finset.univ.biUnion fun t : Fin 16 => chunk (rowIn t c)]{fullShare} f)
          ∗ (((c : Thread nD τ).loc cc0_stg1_0) ↦[half c]{fullShare} f)) :=
    BI.Entails.antisymm (pointsTo_union (chunks_half_disjoint c)).1 (pointsTo_union (chunks_half_disjoint c)).2
  rw [chunks_union_half] at u
  refine u.trans ?_
  rw [e]; rfl

omit [FloatOps F] in
/-- At the start the result is cut into the rows each partner writes and the device's own half. -/
theorem out_split (f : Buf (Elt F) ((c : Thread nD τ).loc cc0_stg1_0)) :
    (((c : Thread nD τ).loc cc0_stg1_0) ↦{fullShare} f : sProp 𝕄)
      ⊢ iprop(outIn c 0 ∗ outIn c 1 ∗ outIn c 2 ∗ (∃ f, ((c : Thread nD τ).loc cc0_stg1_0) ↦[half c]{fullShare} f)) := by
  have h : (bigSep Finset.univ fun t : Fin 16 => (chPts c (rowIn t c) fullShare f : sProp 𝕄))
      ⊢ bigSep Finset.univ fun t : Fin 16 => iprop(∃ f, chPts (F := F) c (rowIn t c) fullShare f) :=
    bigSep_mono fun t _ => show (chPts c (rowIn t c) fullShare f : sProp 𝕄) ⊢ iprop(∃ f, chPts (F := F) c (rowIn t c) fullShare f) from by
      iintro H; iexists f; iexact H
  rw [out_cut]
  iintro ⟨H, Hh⟩
  ihave H' := h $$ H
  ihave H3 := (Entails.of_eq (by_axis fun t : Fin 16 => iprop(∃ f, chPts (F := F) c (rowIn t c) fullShare f))) $$ H'
  icases H3 with ⟨H0, H1, H2⟩
  unfold outIn
  isplitl [H0]; · iexact H0
  isplitl [H1]; · iexact H1
  isplitl [H2]; · iexact H2
  iexists f; iexact Hh

omit [FloatOps F] in
theorem scr_split (f : Buf (Elt F) ((c : Thread nD τ).loc cc0_scratch0)) :
    (((c : Thread nD τ).loc cc0_scratch0) ↦{fullShare} f : sProp 𝕄)
      ⊢ iprop((∃ f, stPts c 0 f) ∗ (∃ f, stPts c 1 f) ∗ (∃ f, stPts c 2 f) ∗ (∃ f, stPts c 3 f)) := by
  have e : (((c : Thread nD τ).loc cc0_scratch0) ↦{fullShare} f : sProp 𝕄) = bigSep Finset.univ fun k : Fin 4 => stPts c k f :=
    Ring.pointsTo_blocks (ℓ := (c : Thread nD τ).loc cc0_scratch0) (fun k : Fin 4 => stBlk k) (fun k k' h => stBlk_disjoint k k' h) stBlk_union f
  rw [e, list4]
  iintro ⟨H0, H1, H2, H3⟩
  isplitl [H0]; · iexists f; iexact H0
  isplitl [H1]; · iexists f; iexact H1
  isplitl [H2]; · iexists f; iexact H2
  iexists f; iexact H3

omit [FloatOps F] in
theorem scr_join (f₀ : Buf (Elt F) ((c : Thread nD τ).loc cc0_scratch0)) :
    iprop((∃ f, stPts c 0 f) ∗ (∃ f, stPts c 1 f) ∗ (∃ f, stPts c 2 f) ∗ (∃ f, stPts c 3 f))
      ⊢ (iprop(∃ f, ((c : Thread nD τ).loc cc0_scratch0) ↦{fullShare} f) : sProp 𝕄) := by
  have e : (bigSep Finset.univ fun k : Fin 4 => iprop(∃ f, stPts (F := F) c k f)) ⊢ (iprop(∃ f, ((c : Thread nD τ).loc cc0_scratch0) ↦{fullShare} f) : sProp 𝕄) :=
    Ring.pointsTo_blocks_join_exists (ℓ := (c : Thread nD τ).loc cc0_scratch0) (fun k : Fin 4 => stBlk k) (fun k k' h => stBlk_disjoint k k' h) stBlk_union f₀
  rw [list4] at e
  exact e

/-! ## The rights of the copies -/

/-- What the device holds for its copies before it has met its partners: the rights to raise the cells, and its places. -/
def txTok (t : Fin 16) : sProp 𝕄 :=
  iprop(dutyTok ER (cell c (kS t)) 0 0 ∗ dutyTok ER (cell (peer t c) (kR t)) 0 0 ∗ atPos ER (cell c (kS t)) 0 ∅ 0)

omit [FloatOps F] in
/-- With the rows the partners hand over, every copy is ready. -/
theorem tx_ready : iprop((bigSep Finset.univ fun t => txTok (F := F) c t) ∗ barPay c 0 ∗ barPay c 1 ∗ barPay c 2)
    ⊢ bigSep Finset.univ fun t => txReady (F := F) c t := by
  have h (a : Fin 3) : barPay (F := F) c a ⊢ bigSep (along a) fun t => iprop(∃ f, chPts (F := F) (peer t c) (row t c) fullShare f) := by
    unfold barPay
    refine bigSep_mono fun t ht => ?_
    have e : axisOf t = a := (Finset.mem_filter.mp ht).2
    unfold peer; rw [e]; exact BI.Entails.refl _
  have j : iprop((bigSep Finset.univ fun t => txTok (F := F) c t) ∗ bigSep Finset.univ fun t => iprop(∃ f, chPts (F := F) (peer t c) (row t c) fullShare f))
      ⊢ bigSep Finset.univ fun t => txReady (F := F) c t := by
    rw [← bigSep_sep']
    refine bigSep_mono fun t _ => show iprop(txTok (F := F) c t ∗ ∃ f, chPts (F := F) (peer t c) (row t c) fullShare f) ⊢ txReady c t from ?_
    unfold txTok txReady
    iintro ⟨⟨H1, H2, H3⟩, H4⟩
    isplitl [H1]; · iexact H1
    isplitl [H2]; · iexact H2
    isplitl [H3]; · iexact H3
    iexact H4
  iintro ⟨H, H0, H1, H2⟩
  iapply j
  isplitl [H]; · iexact H
  iapply (Entails.of_eq (by_axis fun t : Fin 16 => iprop(∃ f, chPts (F := F) (peer t c) (row t c) fullShare f)).symm)
  isplitl [H0]; · iapply (h 0); iexact H0
  isplitl [H1]; · iapply (h 1); iexact H1
  iapply (h 2); iexact H2

/-! ## The rows come back -/

omit [FloatOps F] in
theorem sendPay_out (t : Fin 16) (h : ¬ t.val < 4) : sendPay (F := F) X c t = srcPts X c t := dif_neg h
omit [FloatOps F] in
theorem sendPay_x (k : Fin 4) : sendPay (F := F) X c (tX k) = iprop(∃ f, stPts c k f) := dif_pos k.isLt

omit [FloatOps F] in
/-- The two shares of a quarter passed on are the quarter again. -/
theorem back_x (i : Fin 4) : iprop(sendPay (F := F) X c (tY i) ∗ sendPay X c (tZ i)) ⊢ recvPay X c (tX i) := by
  have hy : shareOf (tY i) = fullShare.left := (by decide : ∀ i : Fin 4, shareOf (tY i) = fullShare.left) i
  have hz : shareOf (tZ i) = fullShare.right := (by decide : ∀ i : Fin 4, shareOf (tZ i) = fullShare.right) i
  rw [sendPay_out X c (tY i) ((by decide : ∀ i : Fin 4, ¬ (tY i).val < 4) i), sendPay_out X c (tZ i) ((by decide : ∀ i : Fin 4, ¬ (tZ i).val < 4) i)]
  unfold srcPts recvPay chPts
  rw [hy, hz, (row_fwd_x i c).1, (row_fwd_x i c).2]
  exact (pointsTo_share (PosShare.mem_left_op_right fullShare)).2
omit [FloatOps F] in
theorem back_12 : sendPay (F := F) X c 12 ⊢ recvPay X c 5 := by
  rw [sendPay_out X c 12 (by decide)]; unfold srcPts recvPay; rw [row_fwd_12]; exact BI.Entails.refl _
omit [FloatOps F] in
theorem back_13 : sendPay (F := F) X c 13 ⊢ recvPay X c 7 := by
  rw [sendPay_out X c 13 (by decide)]; unfold srcPts recvPay; rw [row_fwd_13]; exact BI.Entails.refl _
omit [FloatOps F] in
theorem back_14 : sendPay (F := F) X c 14 ⊢ recvPay X c 8 := by
  rw [sendPay_out X c 14 (by decide)]; unfold srcPts recvPay; rw [row_fwd_14]; exact BI.Entails.refl _
omit [FloatOps F] in
theorem back_15 : sendPay (F := F) X c 15 ⊢ recvPay X c 10 := by
  rw [sendPay_out X c 15 (by decide)]; unfold srcPts recvPay; rw [row_fwd_15]; exact BI.Entails.refl _

/-! ## The body -/

/-- What the device holds of the cells at the start: its places, and the rights to raise the cells it raises. -/
def linear : sProp 𝕄 :=
  iprop((atPos ER (cell c kB) 0 ∅ 0 ∗ (bigSep Finset.univ fun t : Fin 16 => atPos ER (cell c (kS t)) 0 ∅ 0) ∗ (bigSep Finset.univ fun t : Fin 16 => atPos ER (cell c (kR t)) 0 ∅ 0))
    ∗ (bigSep Finset.univ fun a : Fin 3 => dutyTok ER (cell (nb a c) kB) 0 a)
    ∗ (bigSep Finset.univ fun t : Fin 16 => dutyTok ER (cell c (kS t)) 0 0)
    ∗ (bigSep Finset.univ fun t : Fin 16 => dutyTok ER (cell (peer t c) (kR t)) 0 0))
/-- The credit its own waits spend. -/
def credits : sProp 𝕄 :=
  iprop(cred (tallyAt (cell c kB) () 3) ∗ bigSep Finset.univ fun t : Fin 16 => cred (tallyAt (cell c (kR t)) () N))
/-- What it ends with besides its buffers: every cell at zero. -/
def zeros : sProp 𝕄 :=
  iprop(semVal (cell c kB) 0 ∗ (bigSep Finset.univ fun t : Fin 16 => semVal (cell c (kS t)) 0) ∗ (bigSep Finset.univ fun t : Fin 16 => semVal (cell c (kR t)) 0))

omit [FloatOps F] in
theorem linear_use : iprop(linear (F := F) c ∗ credits c)
    ⊢ iprop((cred (tallyAt (cell c kB) () 3) ∗ atPos ER (cell c kB) 0 ∅ 0)
      ∗ (dutyTok ER (cell (nb 0 c) kB) 0 0 ∗ dutyTok ER (cell (nb 1 c) kB) 0 1 ∗ dutyTok ER (cell (nb 2 c) kB) 0 2)
      ∗ (bigSep Finset.univ fun t => txTok c t) ∗ (bigSep Finset.univ fun t => rxReady c t)) := by
  unfold linear credits txTok rxReady
  rw [bigSep_sep', bigSep_sep', bigSep_sep', list3]
  iintro ⟨⟨⟨HaB, HaS, HaR⟩, ⟨Hd0, Hd1, Hd2⟩, HdS, HdR⟩, HcB, HcR⟩
  isplitl [HcB HaB]; · isplitl [HcB] <;> iassumption
  isplitl [Hd0 Hd1 Hd2]
  · isplitl [Hd0]; · iexact Hd0
    isplitl [Hd1] <;> iassumption
  isplitl [HdS HdR HaS]
  · isplitl [HdS]; · iexact HdS
    isplitl [HdR] <;> iassumption
  isplitl [HcR] <;> iassumption

set_option maxHeartbeats 4000000 in
/-- The body on device `c`: from the argument's block, the result and the scratch at any contents, to the result holding
    its column block and every cell at zero. -/
theorem body_ok (f1 : Buf (Elt F) ((c : Thread nD τ).loc cc0_stg1_0)) (f2 : Buf (Elt F) ((c : Thread nD τ).loc cc0_scratch0)) (Kt : PUnit → sProp 𝕄) :
    iprop(ctx X K ∗ linear c ∗ credits c ∗ owesX c (O₀ c) ∗ xPts X c
        ∗ (((c : Thread nD τ).loc cc0_stg1_0) ↦{fullShare} f1) ∗ (((c : Thread nD τ).loc cc0_scratch0) ↦{fullShare} f2)
        ∗ ((owesX c 0 ∗ xPts X c ∗ (((c : Thread nD τ).loc cc0_stg1_0) ↦{fullShare} (G X c))
            ∗ (∃ f, ((c : Thread nD τ).loc cc0_scratch0) ↦{fullShare} f) ∗ zeros c) -∗ Kt ⟨⟩))
      ⊢ run c (cc0_body (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10) Kt := by
  iintro ⟨#Hctx, Hlin, Hcr, HO, Hx, Hout, Hscr, Hk⟩
  ihave H := (linear_use c) $$ [Hlin Hcr]
  · isplitl [Hlin] <;> iassumption
  icases H with ⟨⟨HcB, HaB⟩, ⟨Hd0, Hd1, Hd2⟩, Htok, Hrx⟩
  ihave H := (out_split c f1) $$ Hout
  icases H with ⟨Hi0, Hi1, Hi2, Hh⟩
  ihave H := (scr_split c f2) $$ Hscr
  icases H with ⟨Hs0, Hs1, Hs2, Hs3⟩
  ihave H := (Entails.of_eq (list16 fun t => rxReady (F := F) c t)) $$ Hrx
  icases H with ⟨HR0, HR1, HR2, HR3, HR4, HR5, HR6, HR7, HR8, HR9, HR10, HR11, HR12, HR13, HR14, HR15⟩
  rw [cc0_body_eq_skeleton]; unfold cc0_body_skel
  rw [k0_part18_eq_skeleton]; unfold k0_part18_skel run
  rw [wp_bind, wp_bind]
  iapply (part1_ok X K c _)
  isplitr; · iexact Hctx
  isplitl [HO]; · iexact HO
  isplitl [Hd0]; · iexact Hd0
  isplitl [Hi0]; · iexact Hi0
  isplitl [Hd1]; · iexact Hd1
  isplitl [Hi1]; · iexact Hi1
  iintro %v2 %v5 %v8 %v9 %v10 %v11 %v13 %v16 %v19 HO
  dsimp only
  rw [wp_bind]
  iapply (part2_ok X K c _ _ _ _ _ _ _)
  isplitr; · iexact Hctx
  isplitl [HO]; · iexact HO
  isplitl [Hd2]; · iexact Hd2
  isplitl [Hi2]; · iexact Hi2
  isplitl [HcB]; · iexact HcB
  isplitl [HaB]; · iexact HaB
  isplitl [Hx]; · iexact Hx
  isplitl [Hs0]; · iexact Hs0
  iintro %r ⟨HO, HzB, Hp0, Hp1, Hp2, Hx, Hs0⟩
  obtain ⟨v40, v41⟩ := r
  ihave H := (tx_ready c) $$ [Htok Hp0 Hp1 Hp2]
  · isplitl [Htok]; · iexact Htok
    isplitl [Hp0]; · iexact Hp0
    isplitl [Hp1] <;> iassumption
  ihave H := (Entails.of_eq (list16 fun t => txReady (F := F) c t)) $$ H
  icases H with ⟨HT0, HT1, HT2, HT3, HT4, HT5, HT6, HT7, HT8, HT9, HT10, HT11, HT12, HT13, HT14, HT15⟩
  dsimp only
  rw [wp_bind]
  iapply (part3_ok X K c _ _ _ _ _ _ _)
  isplitr; · iexact Hctx
  isplitl [HO]; · iexact HO
  isplitl [Hx]; · iexact Hx
  isplitl [Hs0]; · iexact Hs0
  isplitl [Hs1]; · iexact Hs1
  isplitl [HT0]; · iexact HT0
  isplitl [HT1]; · iexact HT1
  iintro %r ⟨HO, Hx, HU0, HU1⟩
  obtain ⟨v96, c256⟩ := r
  try dsimp only
  rw [wp_bind]
  iapply (part4_ok X K c _ _ _ _ _ _ _ _ _)
  isplitr; · iexact Hctx
  isplitl [HO]; · iexact HO
  isplitl [Hx]; · iexact Hx
  isplitl [Hs2]; · iexact Hs2
  isplitl [HT2]; · iexact HT2
  iintro ⟨HO, Hx, HU2⟩
  try dsimp only
  rw [wp_bind]
  iapply (part5_ok X K c _ _ _ _ _ _ _)
  isplitr; · iexact Hctx
  isplitl [HO]; · iexact HO
  isplitl [Hx]; · iexact Hx
  isplitl [Hs3]; · iexact Hs3
  isplitl [HT3]; · iexact HT3
  isplitl [Hh]; · iexact Hh
  iintro ⟨HO, Hx, HU3, Hh⟩
  try dsimp only
  rw [wp_bind]
  iapply (part6_ok X K c _ _ _ _ _ _ _ _ _)
  isplitr; · iexact Hctx
  isplitl [HO]; · iexact HO
  isplitl [HR0]; · iexact HR0
  isplitl [HT4]; · iexact HT4
  isplitl [HT5]; · iexact HT5
  iintro %r ⟨HO, Hz0, HU4, HU5⟩
  obtain ⟨w6, w6b⟩ := r
  try dsimp only
  rw [wp_bind]
  iapply (part7_ok X K c _ _ _ _ _ _ _ _ _ _)
  isplitr; · iexact Hctx
  isplitl [HO]; · iexact HO
  isplitl [HR1]; · iexact HR1
  isplitl [HT6]; · iexact HT6
  iintro ⟨HO, Hz1, HS7, HU6⟩
  try dsimp only
  rw [wp_bind]
  iapply (part8_ok X K c _ _ _ _ _ _ _ _)
  isplitr; · iexact Hctx
  isplitl [HO]; · iexact HO
  isplitl [HR2]; · iexact HR2
  isplitl [HT7]; · iexact HT7
  isplitl [HT8]; · iexact HT8
  isplitl [HS7]; · iexact HS7
  iintro %r ⟨HO, Hz2, HS9, HU7, HU8⟩
  try dsimp only
  rw [wp_bind]
  iapply (part9_ok X K c _ _ _ _ _ _ _ _ _ _)
  isplitr; · iexact Hctx
  isplitl [HO]; · iexact HO
  isplitl [HR3]; · iexact HR3
  isplitl [HT9]; · iexact HT9
  isplitl [HT10]; · iexact HT10
  isplitl [HS9]; · iexact HS9
  iintro ⟨HO, Hz3, HS11, HU9, HU10⟩
  try dsimp only
  rw [wp_bind]
  iapply (part10_ok X K c _ _ _ _ _ _ _ _)
  isplitr; · iexact Hctx
  isplitl [HO]; · iexact HO
  isplitl [HR5]; · iexact HR5
  isplitl [HT11]; · iexact HT11
  isplitl [HS11]; · iexact HS11
  iintro ⟨HO, Hz5, HS12, HU11⟩
  try dsimp only
  rw [wp_bind]
  iapply (part11_ok X K c _ _ _ _ _ _ _ _)
  isplitr; · iexact Hctx
  isplitl [HO]; · iexact HO
  isplitl [HR4]; · iexact HR4
  isplitl [HR7]; · iexact HR7
  isplitl [HT12]; · iexact HT12
  isplitl [HS12]; · iexact HS12
  iintro %r ⟨HO, Hz4, Hz7, HP4, HS13, HU12⟩
  obtain ⟨w11, w11b⟩ := r
  try dsimp only
  rw [wp_bind]
  iapply (part12_ok X K c _ _ _ _ _ _ _ _)
  isplitr; · iexact Hctx
  isplitl [HO]; · iexact HO
  isplitl [HR6]; · iexact HR6
  isplitl [HR9]; · iexact HR9
  isplitl [HT13]; · iexact HT13
  isplitl [HS13]; · iexact HS13
  iintro ⟨HO, Hz6, Hz9, HP6, HP9, HU13⟩
  try dsimp only
  rw [wp_bind]
  iapply (part13_ok X K c _ _ _ _ _ _ _)
  isplitr; · iexact Hctx
  isplitl [HO]; · iexact HO
  isplitl [HR8]; · iexact HR8
  isplitl [HR11]; · iexact HR11
  isplitl [HT14]; · iexact HT14
  iintro %r ⟨HO, Hz8, Hz11, HP11, HU14⟩
  obtain ⟨w13, w13b⟩ := r
  try dsimp only
  rw [wp_bind]
  iapply (part14_ok X K c _ _ _ _ _ _ _ _ _ _)
  isplitr; · iexact Hctx
  isplitl [HO]; · iexact HO
  isplitl [HR10]; · iexact HR10
  isplitl [HR12]; · iexact HR12
  isplitl [HT15]; · iexact HT15
  iintro %r ⟨HO, Hz10, Hz12, HP12, HU15⟩
  try dsimp only
  rw [wp_bind]
  iapply (part15_ok X K c _ _ _ _ _ _ _)
  isplitr; · iexact Hctx
  isplitl [HO]; · iexact HO
  isplitl [HR14]; · iexact HR14
  isplitl [HR13]; · iexact HR13
  isplitl [HR15]; · iexact HR15
  iintro ⟨HO, Hz14, Hz13, Hz15, HP14, HP13, HP15⟩
  try dsimp only
  rw [wp_bind]
  iapply (part16_ok X K c _)
  isplitr; · iexact Hctx
  isplitl [HO]; · iexact HO
  isplitl [HU0]; · iexact HU0
  isplitl [HU1]; · iexact HU1
  isplitl [HU2]; · iexact HU2
  isplitl [HU3]; · iexact HU3
  isplitl [HU4]; · iexact HU4
  iintro ⟨HO, Hy0, Hy1, Hy2, Hy3, Hy4, HB0, HB1, HB2, HB3, HB4⟩
  try dsimp only
  rw [wp_bind]
  iapply (part17_ok X K c _)
  isplitr; · iexact Hctx
  isplitl [HO]; · iexact HO
  isplitl [HU6]; · iexact HU6
  isplitl [HU8]; · iexact HU8
  isplitl [HU10]; · iexact HU10
  isplitl [HU5]; · iexact HU5
  isplitl [HU7]; · iexact HU7
  isplitl [HU9]; · iexact HU9
  iintro ⟨HO, Hy6, Hy8, Hy10, Hy5, Hy7, Hy9, HB6, HB8, HB10, HB5, HB7, HB9⟩
  try dsimp only
  simp only [Prog.lift, Prog.bind_op, Prog.bind_ret, Prog.pure_eq_ret]
  iapply (wp_wait_send X K c 11 rfl) $$ [HO HU11]
  · isplitr; · iexact Hctx
    isplitl [HU11]; · iexact HU11
    iexact HO
  iintro ⟨HO, Hy11, HB11⟩
  iapply (wp_wait_send X K c 12 rfl) $$ [HO HU12]
  · isplitr; · iexact Hctx
    isplitl [HU12]; · iexact HU12
    iexact HO
  iintro ⟨HO, Hy12, HB12⟩
  iapply (wp_wait_send X K c 13 rfl) $$ [HO HU13]
  · isplitr; · iexact Hctx
    isplitl [HU13]; · iexact HU13
    iexact HO
  iintro ⟨HO, Hy13, HB13⟩
  iapply (wp_wait_send X K c 14 rfl) $$ [HO HU14]
  · isplitr; · iexact Hctx
    isplitl [HU14]; · iexact HU14
    iexact HO
  iintro ⟨HO, Hy14, HB14⟩
  unfold run; rw [wp_ret]; imodintro
  iapply (wp_wait_send X K c 15 rfl) $$ [HO HU15]
  · isplitr; · iexact Hctx
    isplitl [HU15]; · iexact HU15
    iexact HO
  iintro ⟨HO, Hy15, HB15⟩
  unfold run; rw [wp_ret]; imodintro
  iapply Hk
  isplitl [HO]; · iexact HO
  isplitl [Hx]; · iexact Hx
  isplitl [HB4 HB5 HB6 HB7 HB8 HB9 HB10 HB11 HB12 HB13 HB14 HB15 HP4 HP6 HP9 HP11 HP12 HP13 HP14 HP15 Hh]
  · rw [out_cut, show (bigSep Finset.univ fun t : Fin 16 => (chPts c (rowIn t c) fullShare (G X c) : sProp 𝕄)) = _ from list16 (fun t => recvPay X c t)]
    isplitl [HB4 HB5 HB6 HB7 HB8 HB9 HB10 HB11 HB12 HB13 HB14 HB15 HP4 HP6 HP9 HP11 HP12 HP13 HP14 HP15]
    · isplitl [HB4 HB5]; · iapply (show iprop(sendPay (F := F) X c 4 ∗ sendPay X c 5) ⊢ recvPay X c 0 from back_x X c 0); isplitl [HB4] <;> iassumption
      isplitl [HB6 HB7]; · iapply (show iprop(sendPay (F := F) X c 6 ∗ sendPay X c 7) ⊢ recvPay X c 1 from back_x X c 1); isplitl [HB6] <;> iassumption
      isplitl [HB8 HB9]; · iapply (show iprop(sendPay (F := F) X c 8 ∗ sendPay X c 9) ⊢ recvPay X c 2 from back_x X c 2); isplitl [HB8] <;> iassumption
      isplitl [HB10 HB11]; · iapply (show iprop(sendPay (F := F) X c 10 ∗ sendPay X c 11) ⊢ recvPay X c 3 from back_x X c 3); isplitl [HB10] <;> iassumption
      isplitl [HP4]; · iexact HP4
      isplitl [HB12]; · iapply (back_12 X c); iexact HB12
      isplitl [HP6]; · iexact HP6
      isplitl [HB13]; · iapply (back_13 X c); iexact HB13
      isplitl [HB14]; · iapply (back_14 X c); iexact HB14
      isplitl [HP9]; · iexact HP9
      isplitl [HB15]; · iapply (back_15 X c); iexact HB15
      isplitl [HP11]; · iexact HP11
      isplitl [HP12]; · iexact HP12
      isplitl [HP13]; · iexact HP13
      isplitl [HP14]; · iexact HP14
      iexact HP15
    iexact Hh
  isplitl [HB0 HB1 HB2 HB3]
  · iapply (scr_join c f2)
    isplitl [HB0]; · iapply (Entails.of_eq (show sendPay (F := F) X c 0 = iprop(∃ f, stPts c 0 f) from sendPay_x X c 0)); iexact HB0
    isplitl [HB1]; · iapply (Entails.of_eq (show sendPay (F := F) X c 1 = iprop(∃ f, stPts c 1 f) from sendPay_x X c 1)); iexact HB1
    isplitl [HB2]; · iapply (Entails.of_eq (show sendPay (F := F) X c 2 = iprop(∃ f, stPts c 2 f) from sendPay_x X c 2)); iexact HB2
    iapply (Entails.of_eq (show sendPay (F := F) X c 3 = iprop(∃ f, stPts c 3 f) from sendPay_x X c 3)); iexact HB3
  unfold zeros
  rw [list16, list16]
  isplitl [HzB]; · iexact HzB
  isplitl [Hy0 Hy1 Hy2 Hy3 Hy4 Hy5 Hy6 Hy7 Hy8 Hy9 Hy10 Hy11 Hy12 Hy13 Hy14 Hy15]
  · isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    isplitl [Hy7]; · iexact Hy7
    isplitl [Hy8]; · iexact Hy8
    isplitl [Hy9]; · iexact Hy9
    isplitl [Hy10]; · iexact Hy10
    isplitl [Hy11]; · iexact Hy11
    isplitl [Hy12]; · iexact Hy12
    isplitl [Hy13]; · iexact Hy13
    isplitl [Hy14]; · iexact Hy14
    iexact Hy15
  isplitl [Hz0]; · iexact Hz0
  isplitl [Hz1]; · iexact Hz1
  isplitl [Hz2]; · iexact Hz2
  isplitl [Hz3]; · iexact Hz3
  isplitl [Hz4]; · iexact Hz4
  isplitl [Hz5]; · iexact Hz5
  isplitl [Hz6]; · iexact Hz6
  isplitl [Hz7]; · iexact Hz7
  isplitl [Hz8]; · iexact Hz8
  isplitl [Hz9]; · iexact Hz9
  isplitl [Hz10]; · iexact Hz10
  isplitl [Hz11]; · iexact Hz11
  isplitl [Hz12]; · iexact Hz12
  isplitl [Hz13]; · iexact Hz13
  isplitl [Hz14]; · iexact Hz14
  iexact Hz15

end Cert.KernelIdealProof

end
-- ==== Proof.KernelIdeal.Run.lean ====
/-
The launch: eight devices started together, each with its share of the cells, the tokens of a cell dealt to the device
that raises it; every run terminates, with every device's result at its column block, its argument unchanged and every
semaphore at zero.
-/
module

public import proofs.«01_k».proof.Proof.KernelIdeal.Body
public import Idealize.ShloMosaic.Lib.Pipeline.CollectiveSegs
public import Idealize.ShloMosaic.Lib.Pipeline.ValueKit

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore zero. -/
def s₀ : MemSt nD τ sig (Elt F) := ⟨m, fun _ => 0, ρ⟩

/-- Device `c`'s argument, as the staging copy holds it. -/
def xstg (c : Dev nD) : (cc0_stg0_0 : Ref sig .tc).ty.Contents (Elt F) :=
  (win0_0.blk (0 : Fin 1)).view.read (Elt F) ((s₀ m ρ).mem ((c : Thread nD τ).loc main_arg0))

/-- What a device's body starts from besides its buffers; -/
def start (c : Dev nD) : sProp 𝕄 :=
  iprop((∃ K, records (xstg m ρ) K ∗ linear c) ∗ credits c ∗ levAts L lv)
def Φ₀ (c : Dev nD) : sProp 𝕄 := iprop(start m ρ c ∗ ∃ f, ((c : Thread nD τ).loc cc0_scratch0) ↦{fullShare} f)
/-- and what it ends with. -/
def Φ₁ (c : Dev nD) : sProp 𝕄 := iprop((∃ f, ((c : Thread nD τ).loc cc0_scratch0) ↦{fullShare} f) ∗ zeros (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => G (xstg m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Ψ : Fin cfg0.W → sProp 𝕄) : bigSep Finset.univ Ψ = iprop(Ψ (0 : Fin 2) ∗ Ψ (1 : Fin 2)) := bigSep_W0 Ψ

theorem fetch_0 (t : Fin cfg0.N) : (cfg0.win (0 : Fin 2)).fetch t = true := by rw [fin_N0 t]; rfl

omit [FloatOps F] in
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-! ## The body, as the pipeline runs it -/

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ c ∗ (dats m ρ 0 c).owesAt () t0_0.succ ∗ stg c cc0_stg0_0 (xstg m ρ c) ∗ stg c cc0_stg1_0 (G (xstg m ρ) c))

theorem sound_body (c : Dev nD) :
    bodyPre m ρ c ⊢ run c (cc0_body (F := F) xM (Memref.isWhole_whole _) oM (Memref.isWhole_whole _) sM (Memref.isWhole_whole _) cc0_scratch1 cc0_scratch2 cc0_scratch3 cc0_scratch4 cc0_scratch5 cc0_scratch6 cc0_scratch7 cc0_scratch8 cc0_scratch9 cc0_scratch10) (fun _ => bodyPost m ρ c) := by
  unfold bodyPre Φ₀ start
  iintro ⟨⟨⟨⟨%K, HR, Hlin⟩, Hcr, Hlev⟩, ⟨%f2, Hscr⟩⟩, Ho, ⟨%d0, %g0, %hg0, Hx⟩, ⟨%d1, %g1, %hg1, Hout⟩⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  iapply (body_ok (xstg m ρ) K c g1 f2 (fun _ => bodyPost m ρ c))
  isplitl [HR Hlev]
  · unfold ctx; isplitl [HR] <;> iassumption
  isplitl [Hlin]; · iexact Hlin
  isplitl [Hcr]; · iexact Hcr
  isplitl [HO]; · unfold owesX; iexists W; iexact HO
  isplitl [Hx]; · unfold xPts; iexact Hx
  isplitl [Hout]; · iexact Hout
  isplitl [Hscr]; · iexact Hscr
  unfold owesX xPts
  iintro ⟨⟨%W', HO⟩, Hx, Hout, Hscr, Hz⟩
  unfold bodyPost Φ₁ Dat.owesAt Pipeline.owesWithin
  rw [show (dats m ρ 0 c).owed t0_0.succ = 0 from rfl]
  isplitl [Hscr Hz]
  · isplitl [Hscr] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- The pipeline's one point runs the body. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

/-! ## Cells and tokens -/

theorem ownSemFacts : Pipeline.OwnSemFacts cfg0.spec osem := by decide

theorem share_eq (c : Dev nD) (w : Fin cfg0.W) : (dats m ρ 0 c).share w = fullShare := by unfold Dat.share; split <;> rfl

def cells : Finset (GSem nD τ sig) :=
  Finset.univ.map ⟨fun ck : Dev nD × CI => cell ck.1 ck.2, fun a b h => Prod.ext (cell_inj h).1 (cell_inj h).2⟩

/-- A token's index: the barrier's three, one for every other cell. -/
abbrev TI : Type := Fin 3 ⊕ OI
abbrev tokAt (cj : Dev nD × TI) : GSem nD τ sig × ℕ × Fin 3 := match cj.2 with
  | .inl a => (cell cj.1 kB, 0, a)
  | .inr k => (cell cj.1 (.inl k), 0, 0)
theorem tokAt_injective : Function.Injective (tokAt : Dev nD × TI → GSem nD τ sig × ℕ × Fin 3) := by
  rintro ⟨c, j⟩ ⟨c', j'⟩ h
  rcases j with a | k <;> rcases j' with a' | k'
  · have e := cell_inj (congrArg (fun x : GSem nD τ sig × ℕ × Fin 3 => x.1) h)
    have e' : a = a' := congrArg (fun x : GSem nD τ sig × ℕ × Fin 3 => x.2.2) h
    obtain rfl := e.1; subst e'; rfl
  · exact absurd (cell_inj (congrArg (fun x : GSem nD τ sig × ℕ × Fin 3 => x.1) h)).2 (by intro e; cases e)
  · exact absurd (cell_inj (congrArg (fun x : GSem nD τ sig × ℕ × Fin 3 => x.1) h)).2 (by intro e; cases e)
  · have e := cell_inj (congrArg (fun x : GSem nD τ sig × ℕ × Fin 3 => x.1) h)
    obtain rfl := e.1; cases e.2; rfl
def tokens : Finset (GSem nD τ sig × ℕ × Fin 3) := Finset.univ.map ⟨tokAt, tokAt_injective⟩

def u₀ : UU := (initOf (Pipeline.cells cfgs cellOf_inj) (Pipeline.launchToks cfgs cellOf_inj), initOf cells tokens)

/-- The tokens of device `c`'s own cells, as they are minted. -/
def minted (c : Dev nD) : sProp 𝕄 :=
  iprop((bigSep Finset.univ fun a : Fin 3 => dutyTok ER (cell c kB) 0 a)
    ∗ (bigSep Finset.univ fun t : Fin 16 => dutyTok ER (cell c (kS t)) 0 0)
    ∗ (bigSep Finset.univ fun t : Fin 16 => dutyTok ER (cell c (kR t)) 0 0))

/-- What the launch deals device `c`; -/
def dealt (c : Dev nD) : sProp 𝕄 :=
  iprop((bigSep Finset.univ fun k : CI => roundState ER (Rd (xstg m ρ)) (cell c k) 0)
    ∗ (bigSep Finset.univ fun k : CI => iprop(atPos ER (cell c k) 0 ∅ 0 ∗ reached ER (cell c k) 0)) ∗ minted c)
/-- what it is made into, all devices together. -/
def given (c : Dev nD) : sProp 𝕄 := iprop(∃ K, records (xstg m ρ) K ∗ linear c)

omit [FloatOps F] in
theorem over_CI (Ψ : CI → sProp 𝕄) : bigSep Finset.univ Ψ
    = iprop(((bigSep Finset.univ fun t : Fin 16 => Ψ (kS t)) ∗ (bigSep Finset.univ fun t : Fin 16 => Ψ (kR t))) ∗ Ψ kB) := by
  rw [bigSep_univ_sum, bigSep_univ_sum, bigSep_univ_of_subsingleton ()]; rfl

omit [FloatOps F] in
theorem fund_cells : BI.own (ER (initOf cells tokens)) ⊢ (|==> bigSep Finset.univ (dealt m ρ) : sProp 𝕄) := by
  have hX (Ψ : GSem nD τ sig → sProp 𝕄) : bigSep cells Ψ = bigSep Finset.univ fun c : Dev nD => bigSep Finset.univ fun k : CI => Ψ (cell c k) := by
    unfold cells; rw [bigSep_map, bigSep_univ_prod]; rfl
  have hT : bigSep tokens (fun x => (dutyTok ER x.1 x.2.1 x.2.2 : sProp 𝕄)) = bigSep Finset.univ fun c : Dev nD => minted c := by
    unfold tokens; rw [bigSep_map, bigSep_univ_prod]
    exact bigSep_congr fun c _ => by unfold minted; rw [bigSep_univ_sum, bigSep_univ_sum]; rfl
  iintro HX
  imod (Rounds.fund ER (Rd (xstg m ρ)) cells tokens) $$ HX with ⟨Hst, Hr, Hat, Htok⟩
  imodintro
  ihave Hst' := (Entails.of_eq (hX fun g => roundState ER (Rd (xstg m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

omit [FloatOps F] in
/-- The copies' semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun t : Fin 16 => semVal (cell c (kS t)) 0) ∗ (bigSep Finset.univ fun t : Fin 16 => semVal (cell c (kR t)) 0)) := by
  unfold Pipeline.ownSems0; rw [bigSep_univ_sum]; rfl
omit [FloatOps F] in
/-- the barrier's is the one that stays. -/
theorem unscopedSems0_eq (c : Dev nD) : (unscopedSems0 c : sProp 𝕄) = semVal (cell c kB) 0 := by
  unfold unscopedSems0; rw [bigSep_eq_bigSepL_of_eq [SemLoc.reg barS] (by decide) (by decide)]; rfl

omit [FloatOps F] in
/-- Every cell of a device gets its invariant. -/
theorem core_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : CI => iprop(∃ κ : ℕ, cellInv ER (Rd (xstg m ρ)) κ (cell c k)))
          ∗ (bigSep Finset.univ fun k : CI => iprop(atPos ER (cell c k) 0 ∅ 0 ∗ reached ER (cell c k) 0)) ∗ minted c) := by
  have hv : iprop(Pipeline.ownSems0 (Ix := Unit) (Name := ℕ) (U := UU) (Lvl := ℕ) (Val := Elt F) (τ := τ) osem c ∗ unscopedSems0 c)
      ⊢ (bigSep Finset.univ fun k : CI => semVal (cell c k) 0 : sProp 𝕄) := by
    rw [ownSems0_eq, unscopedSems0_eq, over_CI]
  have ha : iprop((bigSep Finset.univ fun k : CI => semVal (cell c k) 0) ∗ bigSep Finset.univ fun k : CI => roundState ER (Rd (xstg m ρ)) (cell c k) 0)
      ⊢ (|={Set.univ}=> bigSep Finset.univ fun k : CI => iprop(∃ κ : ℕ, cellInv ER (Rd (xstg m ρ)) κ (cell c k)) : sProp 𝕄) := by
    rw [← bigSep_sep']
    exact (bigSep_mono fun k _ => (Rounds.body_intro ER (Rd (xstg m ρ)) (cell c k)).trans inv_alloc).trans (bigSep_fupd _ _)
  unfold dealt
  iintro ⟨Hos, Hus, Hst, Hat, Htok⟩
  ihave Hv := hv $$ [Hos Hus]
  · isplitl [Hos] <;> iassumption
  imod ha $$ [Hv Hst] with Hinv
  · isplitl [Hv] <;> iassumption
  imodintro
  isplitl [Hinv]; · iexact Hinv
  isplitl [Hat]; · iexact Hat
  iexact Htok

/-! ## The tokens go to the device that raises the cell -/

/-- What is kept of the cells' places, and the tokens dealt. -/
def places (c : Dev nD) : sProp 𝕄 := bigSep Finset.univ fun k : CI => atPos ER (cell c k) 0 ∅ 0

def nbEquiv (a : Fin 3) : Dev nD ≃ Dev nD := ⟨nb a, nb a, nb_nb a, nb_nb a⟩
def peerEquiv (t : Fin 16) : Dev nD ≃ Dev nD := ⟨peer t, peer t, peer_peer t, peer_peer t⟩

def payToks (c : Dev nD) : sProp 𝕄 :=
  iprop((bigSep Finset.univ fun a : Fin 3 => dutyTok ER (cell (nb a c) kB) 0 a)
    ∗ (bigSep Finset.univ fun t : Fin 16 => dutyTok ER (cell c (kS t)) 0 0)
    ∗ (bigSep Finset.univ fun t : Fin 16 => dutyTok ER (cell (peer t c) (kR t)) 0 0))

omit [FloatOps F] in
theorem toks_dealt : (bigSep Finset.univ fun c : Dev nD => minted (F := F) c) ⊢ bigSep Finset.univ fun c : Dev nD => payToks (F := F) c := by
  have hb : (bigSep Finset.univ fun c : Dev nD => bigSep Finset.univ fun a : Fin 3 => (dutyTok ER (cell c kB) 0 a : sProp 𝕄))
      = bigSep Finset.univ fun c : Dev nD => bigSep Finset.univ fun a : Fin 3 => (dutyTok ER (cell (nb a c) kB) 0 a : sProp 𝕄) := by
    rw [Pipeline.bigSep_univ_comm, Pipeline.bigSep_univ_comm (fun (c : Dev nD) (a : Fin 3) => (dutyTok ER (cell (nb a c) kB) 0 a : sProp 𝕄))]
    exact bigSep_congr fun a _ => bigSep_univ_equiv (nbEquiv a) (fun c : Dev nD => (dutyTok ER (cell c kB) 0 a : sProp 𝕄))
  have hr : (bigSep Finset.univ fun c : Dev nD => bigSep Finset.univ fun t : Fin 16 => (dutyTok ER (cell c (kR t)) 0 0 : sProp 𝕄))
      = bigSep Finset.univ fun c : Dev nD => bigSep Finset.univ fun t : Fin 16 => (dutyTok ER (cell (peer t c) (kR t)) 0 0 : sProp 𝕄) := by
    rw [Pipeline.bigSep_univ_comm, Pipeline.bigSep_univ_comm (fun (c : Dev nD) (t : Fin 16) => (dutyTok ER (cell (peer t c) (kR t)) 0 0 : sProp 𝕄))]
    exact bigSep_congr fun t _ => bigSep_univ_equiv (peerEquiv t) (fun c : Dev nD => (dutyTok ER (cell c (kR t)) 0 0 : sProp 𝕄))
  unfold minted payToks
  rw [bigSep_sep', bigSep_sep', bigSep_sep', bigSep_sep', hb, hr]

omit [FloatOps F] in
theorem linear_intro (c : Dev nD) : iprop(places (F := F) c ∗ payToks c) ⊢ linear c := by
  unfold places payToks linear
  rw [over_CI]
  iintro ⟨⟨⟨HS, HR⟩, HB⟩, Ht⟩
  isplitl [HS HR HB]
  · isplitl [HB]; · iexact HB
    isplitl [HS] <;> iassumption
  iexact Ht

omit [FloatOps F] in
theorem regroup :
    (bigSep Finset.univ fun c : Dev nD => iprop((bigSep Finset.univ fun k : CI => iprop(∃ κ : ℕ, cellInv ER (Rd (xstg m ρ)) κ (cell c k)))
          ∗ (bigSep Finset.univ fun k : CI => iprop(atPos ER (cell c k) 0 ∅ 0 ∗ reached ER (cell c k) 0)) ∗ minted c) : sProp 𝕄)
      ⊢ bigSep Finset.univ (given m ρ) := by
  have hg (K : Dev nD × CI → ℕ) : iprop(records (xstg m ρ) K ∗ bigSep Finset.univ fun c : Dev nD => iprop(places (F := F) c ∗ payToks c))
      ⊢ bigSep Finset.univ (given m ρ) := by
    have h1 (c : Dev nD) : iprop(records (xstg m ρ) K ∗ (places (F := F) c ∗ payToks c)) ⊢ given m ρ c := by
      unfold given
      iintro ⟨HR, H⟩
      iexists K
      isplitl [HR]; · iexact HR
      iapply (linear_intro c); iexact H
    refine (sep_mono_left (BI.bigSep_of_persistent (Finset.univ : Finset (Dev nD)) (records (xstg m ρ) K))).trans ?_
    rw [← bigSep_sep']
    exact bigSep_mono fun c _ => h1 c
  rw [bigSep_sep', bigSep_sep', ← bigSep_univ_prod (fun ck : Dev nD × CI => iprop(∃ κ : ℕ, cellInv ER (Rd (xstg m ρ)) κ (cell ck.1 ck.2))),
    bigSep_congr (s := Finset.univ) (fun (c : Dev nD) _ => bigSep_sep' Finset.univ (fun k : CI => (atPos ER (cell c k) 0 ∅ 0 : sProp 𝕄)) (fun k => reached ER (cell c k) 0)),
    bigSep_sep', ← bigSep_univ_prod (fun ck : Dev nD × CI => (reached ER (cell ck.1 ck.2) 0 : sProp 𝕄))]
  iintro ⟨HI, ⟨Hat, #HR⟩, Htok⟩
  ihave HK := (BI.bigSep_exists_pi Finset.univ (fun (ck : Dev nD × CI) (κ : ℕ) => (cellInv ER (Rd (xstg m ρ)) κ (cell ck.1 ck.2) : sProp 𝕄))) $$ HI
  icases HK with ⟨%K, #HI⟩
  ihave Htk := (toks_dealt (F := F)) $$ Htok
  iapply (hg K)
  isplitr
  · unfold records; isplitl; · iexact HI
    iexact HR
  · rw [bigSep_sep']
    isplitl [Hat]; · unfold places; iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (given m ρ) :=
  ((bigSep_mono fun c _ => core_alloc m ρ c).trans (bigSep_fupd _ _)).trans (BI.fupd_mono (regroup m ρ))

/-! ## The launch credit -/

/-- What device `d` owes cell `k` of device `c` for the copies `l`. -/
theorem Ol_at (d c : Dev nD) (t : Fin 16) (l : List (Fin 16)) (hl : l.Nodup) :
    Ol d l (cell c (kR t)) () = if t ∈ l ∧ d = peer t c then N else 0 := by
  induction l with
  | nil => rw [if_neg (fun h => by cases h.1)]; rfl
  | cons s l ih =>
    have hs := List.nodup_cons.mp hl
    show Ol d l (cell c (kR t)) () + tallyAt (cell (peer s d) (kR s)) () N (cell c (kR t)) () = _
    rw [ih hs.2, tallyAt_apply]
    by_cases e : t = s
    · subst e
      rw [if_neg (fun h => hs.1 h.1), Nat.zero_add]
      by_cases hd : d = peer t c
      · subst hd; rw [peer_peer, if_pos ⟨rfl, rfl⟩, if_pos ⟨List.mem_cons_self, rfl⟩]
      · rw [if_neg (fun h => hd (by rw [(cell_inj h.1).1, peer_peer])), if_neg (fun h => hd h.2)]
    · rw [if_neg (fun h : cell c (kR t) = cell (peer s d) (kR s) ∧ () = () => e (by have := (cell_inj h.1).2; injection (Sum.inl.inj this))), Nat.add_zero]
      by_cases h : t ∈ l ∧ d = peer t c
      · rw [if_pos h, if_pos ⟨List.mem_cons_of_mem _ h.1, h.2⟩]
      · rw [if_neg h, if_neg fun h' => h ⟨(List.mem_cons.mp h'.1).resolve_left e, h'.2⟩]
theorem Ol_bar (d c : Dev nD) (l : List (Fin 16)) : Ol d l (cell c kB) () = 0 := by
  induction l with
  | nil => rfl
  | cons s l ih =>
    show Ol d l (cell c kB) () + tallyAt (cell (peer s d) (kR s)) () N (cell c kB) () = _
    rw [ih, tallyAt_apply, if_neg (fun h => by have := (cell_inj h.1).2; cases this)]
theorem bar_tally (d c : Dev nD) (a : Fin 3) (k : CI) :
    tallyAt (cell (nb a d) kB) () 1 (cell c k) () = if k = kB ∧ d = nb a c then 1 else 0 := by
  rw [tallyAt_apply]
  by_cases h : k = kB ∧ d = nb a c
  · obtain ⟨rfl, rfl⟩ := h; rw [nb_nb, if_pos ⟨rfl, rfl⟩, if_pos ⟨rfl, rfl⟩]
  · rw [if_neg h, if_neg fun h' => h ⟨(cell_inj h'.1).2, by rw [(cell_inj h'.1).1, nb_nb]⟩]

theorem owed_recv (d c : Dev nD) (t : Fin 16) : O₀ d (cell c (kR t)) () = if d = peer t c then N else 0 := by
  have ho : t ∈ order := (by decide : ∀ t : Fin 16, t ∈ order) t
  unfold O₀ O₁ O₂
  rw [Pi.add_apply, Finsupp.add_apply, Pi.add_apply, Finsupp.add_apply, Pi.add_apply, Finsupp.add_apply, bar_tally, bar_tally, bar_tally,
    if_neg (fun h => by cases h.1), if_neg (fun h => by cases h.1), if_neg (fun h => by cases h.1), Nat.add_zero,
    Ol_at d c t order (by decide)]
  by_cases h : d = peer t c
  · rw [if_pos ⟨ho, h⟩, if_pos h]
  · rw [if_neg (fun h' => h h'.2), if_neg h]
theorem owed_bar (d c : Dev nD) : O₀ d (cell c kB) () = (if d = nb 2 c then 1 else 0) + (if d = nb 1 c then 1 else 0) + (if d = nb 0 c then 1 else 0) := by
  have e (a : Fin 3) : (if kB = kB ∧ d = nb a c then 1 else 0) = if d = nb a c then 1 else 0 := by simp only [true_and]
  unfold O₀ O₁ O₂
  rw [Pi.add_apply, Finsupp.add_apply, Pi.add_apply, Finsupp.add_apply, Pi.add_apply, Finsupp.add_apply, bar_tally, bar_tally, bar_tally,
    Ol_bar, Nat.zero_add, e, e, e]

theorem launch_recv (c : Dev nD) (t : Fin 16) :
    tallyOn (cell c (kR t)) (launchCredit (Pipeline.owing O₀) 0 (cell c (kR t))) = (tallyAt (cell c (kR t)) () N : CellTallies nD τ sig Unit) := by
  unfold tallyAt; refine congrArg _ (Finsupp.ext fun u => ?_); cases u
  rw [Pipeline.launchCredit_owing, Finsupp.single_eq_same, Finset.sum_congr rfl fun d _ => owed_recv d c t,
    Finset.sum_ite_eq' Finset.univ (peer t c) fun _ => N, if_pos (Finset.mem_univ _)]
theorem launch_bar (c : Dev nD) :
    tallyOn (cell c kB) (launchCredit (Pipeline.owing O₀) 0 (cell c kB)) = (tallyAt (cell c kB) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nb 2 c) fun _ => 1, Finset.sum_ite_eq' Finset.univ (nb 1 c) fun _ => 1, Finset.sum_ite_eq' Finset.univ (nb 0 c) fun _ => 1,
    if_pos (Finset.mem_univ _), if_pos (Finset.mem_univ _), if_pos (Finset.mem_univ _)]

omit [FloatOps F] in
/-- What every device owes at the start is what the waits of the others spend. -/
theorem creds (c : Dev nD) : (Pipeline.launchCred O₀ c : sProp 𝕄) ⊢ credits c := by
  have himg : (Finset.univ : Finset (Fin 16)).map ⟨fun t => csem (kR t), fun a b h => Sum.inr.inj (Sum.inl.inj (csem_injective h))⟩
      ⊆ Finset.univ.erase (SemLoc.reg barS) := by
    intro x hx
    obtain ⟨t, -, rfl⟩ := Finset.mem_map.mp hx
    exact Finset.mem_erase.mpr ⟨fun h => (by have := csem_injective (a₁ := kR t) (a₂ := kB) h; cases this), Finset.mem_univ _⟩
  unfold Pipeline.launchCred credits
  rw [bigSep_univ_at _ (SemLoc.reg barS)]
  refine BI.sep_mono (Entails.of_eq (congrArg cred (launch_bar c))) ?_
  refine (bigSep_subset himg).trans ?_
  rw [bigSep_map]
  exact bigSep_mono fun t _ => Entails.of_eq (congrArg cred (launch_recv c t))

/-! ## The run -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given m ρ c)
      ⊢ |={Set.univ}=> iprop(start m ρ c ∗ emp) := by
  iintro ⟨-, Hlev, Hcr, -, HG⟩
  ihave Hc := (creds (F := F) c) $$ Hcr
  imodintro
  unfold start given
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ zeros
  iintro ⟨Hr, HzB, HzS, HzR⟩
  isplitl [HzB]; · iexact HzB
  isplitl [HzS HzR]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The contents of a window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On eight devices, from any memory with every semaphore zero: every weakly fair execution terminates, and every final
    state has each window's array at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := given m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- Every window's one block starts at the origin. -/
theorem idx : ∀ t : Fin cfg0.N, win0_0.index t = ![0, 0] ∧ win0_1.index t = ![0, 0] :=
  (by decide +kernel : ∀ t : Fin grid0.N, _)

/-- The argument as the staging copy holds it is the argument. -/
theorem xstg_eq (c : Dev nD) : xstg m ρ c = m ((c : Thread nD τ).loc main_arg0) := by
  unfold xstg s₀
  blk_ext! [idx t0_0]
  · change win0_0.index t0_0 0 * 2048 + _ = _
    rw [(idx t0_0).1]
    simp
  · change win0_0.index t0_0 1 * 1024 + _ = _
    rw [(idx t0_0).1]
    simp

/-- The result's array after the run holds the column block. -/
theorem finalA_out (c : Dev nD) : finalA m ρ c (1 : Fin 2) = G (fun d => m ((d : Thread nD τ).loc main_arg0)) c := by
  rw [show (fun d : Dev nD => m ((d : Thread nD τ).loc main_arg0)) = xstg m ρ from funext fun d => (xstg_eq m ρ d).symm]
  unfold finalA
  refine (dats m ρ 0 c).arrAt_eq_of_after_last 1 t0_0 (by decide +kernel) _ fun j => ?_
  rfl

/-- The run: on every device the result holds the column block of the eight arguments, the argument is unchanged, and
    every semaphore is at zero. -/
theorem run_value : θ_run defs (onTc (τ := τ) (main (F := F))) ⟨m, fun _ => 0, ρ⟩ fun r =>
    (∀ c : Dev nD, r.2.mem ((c.tc : Thread nD τ).loc main_v1) = G (fun d => m ((d : Thread nD τ).loc main_arg0)) c
      ∧ r.2.mem ((c.tc : Thread nD τ).loc main_arg0) = m ((c.tc : Thread nD τ).loc main_arg0)) ∧ r.2.sem = fun _ => 0 :=
  (θ_run defs _ _).mono (fun _ h => ⟨fun c => ⟨(h.1 c 1).trans (finalA_out m ρ c), (h.1 c 0).trans (finalA_x m ρ c)⟩, h.2⟩) (run_main m ρ)

end Cert.KernelIdealProof

end
-- ==== Proof.Claims.lean ====
/-
  The five claims. The two frames of the kernel and the values are its run (`run_value`, once for the kernel as the
  machine computes it and once for the kernel over the extended reals). The reference is an empty program, so its run
  leaves its argument, which is also its result, as it was. The equation between the two says that the column block
  which the kernel leaves on a device is that device's block of the whole array.
-/
module

public import proofs.«01_k».proof.Defs
public import proofs.«01_k».proof.Proof.Kernel.Run
public import proofs.«01_k».proof.Proof.KernelIdeal.Run
public import proofs.«01_k».proof.Proof.Gen.ReferenceIdeal
public import Idealize.ShloMosaic.Lib.StableHlo.Run
public import Idealize.ShloMosaic.Init

@[expose] public section

set_option maxRecDepth 16384

noncomputable section

/-! ## The reference -/

namespace Cert.ReferenceProof

open Cert.ReferenceIdeal Cert.ReferenceIdeal.Gen
open Idealize.ShloMosaic Idealize.ShloMosaic.TcCoe Idealize.ShloMosaic.StableHlo Idealize.SL.Sem

variable {F : FTy → Type} [FloatOps F]

/-- The reference has no operation: its argument is its result. -/
abbrev steps : List (HloOp τ sig (Elt F)) := []

theorem main_steps (c : Dev nD) : main (F := F) c = seq steps := rfl

theorem no_scoped_ref : (Finset.univ.filter fun b : Ref sig .tc => b.isScoped) = ∅ := by decide
theorem no_scoped_sem : (Finset.univ.filter fun s : SemLoc sig => s.isScoped .tc) = ∅ := by decide

/-- The reference terminates and leaves its one array as it was. -/
theorem run_ref (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_arg0) = m ((c.tc : Thread nD τ).loc main_arg0) :=
  (θ_run defs _ _).mono (fun _ h c => h c main_arg0)
    (run_seq no_scoped_ref no_scoped_sem defs main (fun _ => steps) main_steps (fun _ => trivial) m ρ)

end Cert.ReferenceProof

/-! ## The block equation -/

namespace Cert.ClaimProof

open Cert.KernelIdeal Cert.KernelIdealProof
open Idealize.ShloMosaic Idealize.ShloMosaic.TcCoe Idealize.SL.Sem

variable {F : FTy → Type} [FloatOps F]

/-- The device that row `r` of a result comes from lies in the half of the mesh along `x` that owns row `r`. -/
theorem src_half : ∀ (c : Dev nD) (r : ℕ), r < 4096 → (src c r).val / 4 = r / 2048 := by
  intro c r hr
  have hc : c.val < 8 := c.isLt
  unfold src
  split
  · omega
  · show (4 * (1 - c.val / 4) + r % 2048 / 512) % 8 / 4 = r / 2048
    omega

/-- A device's coordinate along `x`. -/
theorem along_x : ∀ c : Dev nD, Layout.meshLin [2, 2, 2] c.val [0] = c.val / 4 := by decide

set_option backward.proofsInPublic true in
/-- Where every device's argument is its row block of `w`, the result `G` of a device is its column block of `w`. -/
theorem G_block (w : (⟨2, ![4096, 1024]⟩ : Shape).Idx → Elt F .bf16)
    (X : Dev nD → (cc0_stg0_0 : Ref sig .tc).ty.Contents (Elt F))
    (hX : ∀ d : Dev nD, X d = Layout.blockN ⟨2, ![2048, 1024]⟩ ⟨2, ![4096, 1024]⟩ (Layout.meshBlock [2, 2, 2] ![[0], []] d) w) (c : Dev nD) :
    G X c = Layout.blockN ⟨2, ![4096, 512]⟩ ⟨2, ![4096, 1024]⟩ (Layout.meshBlock [2, 2, 2] ![[], [0]] c) w := by
  funext i
  have h0 : (i 0).val < 4096 := lt0 i
  have h1 : (i 1).val < 512 := lt1 i
  have hc : c.val < 8 := c.isLt
  have hs := src_half c (i 0).val h0
  have es := along_x (src c (i 0).val)
  have ec := along_x c
  unfold G
  rw [hX, Layout.blockN_apply, Layout.blockN_apply]
  refine congrArg w (funext fun b => Fin.ext ?_)
  rw [Layout.TilesN.idx_val, Layout.TilesN.idx_val]
  rcases b with ⟨_ | _ | n, hb⟩
  · show Layout.meshLin [2, 2, 2] (src c (i 0).val).val [0] * 2048 + (i 0).val % 2048 % 2048 = 0 * 4096 + (i 0).val
    rw [es]; omega
  · show 0 * 1024 + (512 * (c.val / 4) + (i 1).val) % 1024 = Layout.meshLin [2, 2, 2] c.val [0] * 512 + (i 1).val
    rw [ec]; omega
  · exact absurd hb (by simp)

/-! ## The claims -/

/-- The kernel terminates without a fault, leaves its argument as it was and every semaphore at zero. -/
theorem frame_kernel : Cert.quiescent_Kernel := fun m ρ _ =>
  (θ_run Cert.Kernel.defs _ _).mono (fun _ h => ⟨fun c => (h.1 c).2, h.2⟩) (Cert.KernelProof.run_value (F := Bits) m ρ)

/-- The same of the kernel over the extended reals. -/
theorem frame_ideal : Cert.quiescent_KernelIdeal := fun m ρ _ =>
  (θ_run Cert.KernelIdeal.defs _ _).mono (fun _ h => ⟨fun c => (h.1 c).2, h.2⟩) (Cert.KernelIdealProof.run_value (F := Ideal) m ρ)

/-- The same of the reference, which declares no semaphore. -/
theorem frame_reference : Cert.quiescent_ReferenceIdeal := fun m ρ _ =>
  (θ_run Cert.ReferenceIdeal.defs _ _).mono (fun r h => ⟨h, sem_eq_zero_of_no_sems (by decide) r.2⟩)
    (Cert.ReferenceProof.run_ref (F := Ideal) m ρ)

/-- From row blocks of one array the kernel leaves on every device its column block of that array, which is the array
    the reference returns. -/
theorem values : Cert.algebraic_KernelIdeal_ReferenceIdeal := by
  intro m ρ m' ρ' _ h
  refine ⟨m' (((0 : Dev Cert.ReferenceIdeal.nD).tc : Thread Cert.ReferenceIdeal.nD Cert.ReferenceIdeal.τ).loc Cert.ReferenceIdeal.main_arg0), ?_, ?_⟩
  · exact (θ_run Cert.KernelIdeal.defs _ _).mono
      (fun _ k c => ⟨(k.1 c).1.trans (G_block (F := Ideal) _ _ h c), (k.1 c).2⟩)
      (Cert.KernelIdealProof.run_value (F := Ideal) m ρ)
  · exact (θ_run Cert.ReferenceIdeal.defs _ _).mono (fun _ k => ⟨k 0, k 0⟩) (Cert.ReferenceProof.run_ref (F := Ideal) m' ρ')

end Cert.ClaimProof

end
-- ==== Proof.lean ====
/-
  The proof of `Cert.Claim`: the three frames, the preservation of the kernel by its reading over the extended reals
  (no operation was rewritten), and the equation of the kernel with the reference. The claims themselves are proved in
  Proof/Claims.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything that is claimed. -/
theorem claim : Cert.Claim :=
  ⟨Cert.Kernel.Gen.facts, Cert.KernelIdeal.Gen.facts, Cert.ReferenceIdeal.Gen.facts,
    Cert.ClaimProof.frame_kernel, Cert.ClaimProof.frame_ideal, Cert.ClaimProof.frame_reference, trivial, Cert.ClaimProof.values⟩

end Cert.Proof

end
